-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_grid_points [hPre_grid_points : Cert.Pre_grid_points.Facts] (m : (ℓ : Loc Cert.KernelIdeal.nD Cert.KernelIdeal.τ Cert.KernelIdeal.sig) → Buf (Elt Ideal) ℓ) : Prop :=
  ∀ c : Dev Cert.KernelIdeal.nD,
    (Cert.Pre_grid_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_grid_points [hPre_grid_points : Cert.Pre_grid_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_grid_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_grid_points [hKernelIdeal : Cert.KernelIdeal.Facts] [hPre_grid_points : Cert.Pre_grid_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_grid_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_grid_points [hReferenceIdeal : Cert.ReferenceIdeal.Facts] [hPre_grid_points : Cert.Pre_grid_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_grid_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_grid_points [hKernelIdeal : Cert.KernelIdeal.Facts] [hReferenceIdeal : Cert.ReferenceIdeal.Facts] [hPre_grid_points : Cert.Pre_grid_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_grid_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_grid_points : Cert.Pre_grid_points.Facts),
    quiescent_Kernel (hKernel := hKernel)
    ∧ quiescent_KernelIdeal (hKernelIdeal := hKernelIdeal)
    ∧ quiescent_KernelIdeal_pre_grid_points (hKernelIdeal := hKernelIdeal) (hPre_grid_points := hPre_grid_points)
    ∧ quiescent_ReferenceIdeal (hReferenceIdeal := hReferenceIdeal)
    ∧ quiescent_ReferenceIdeal_pre_grid_points (hReferenceIdeal := hReferenceIdeal) (hPre_grid_points := hPre_grid_points)
    ∧ preserves_Kernel_KernelIdeal
    ∧ algebraic_KernelIdeal_ReferenceIdeal_pre_grid_points (hKernelIdeal := hKernelIdeal) (hReferenceIdeal := hReferenceIdeal) (hPre_grid_points := hPre_grid_points)
-- ==== Pre_grid_points.lean ====
abbrev S16x4096x128 : Shape := ⟨3, ![16, 4096, 128]⟩
abbrev S128x128 : Shape := ⟨2, ![128, 128]⟩
abbrev S1024x128 : Shape := ⟨2, ![1024, 128]⟩
abbrev S_ : Shape := ⟨0, ![]⟩
abbrev S128 : Shape := ⟨1, ![128]⟩
abbrev S1024x1 : Shape := ⟨2, ![1024, 1]⟩
abbrev S1023x128 : Shape := ⟨2, ![1023, 128]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  reducesTo_S128x128_S128_d1 : S128x128.ReducesTo [1] S128
  bcast_S_S128 : S_.BroadcastsInDim S128 (![] : Fin 0 → Fin S128.rank)
  reducesTo_S128_S_d0 : S128.ReducesTo [0] S_
  slices_S1024x128_S1024x1_0_0 : S1024x128.Slices ![0, 0] S1024x1
  bcast_S1024x1_S1024x128_0_1 : S1024x1.BroadcastsInDim S1024x128 (![0, 1] : Fin 2 → Fin S1024x128.rank)
  slices_S1024x128_S1023x128_0_0 : S1024x128.Slices ![0, 0] S1023x128
  slices_S1024x128_S1023x128_1_0 : S1024x128.Slices ![1, 0] S1023x128
  reducesTo_S1023x128_S_d0_1 : S1023x128.ReducesTo [0, 1] S_

variable [Facts]

def fn_part1 {F : FTy → Type} [FloatOps F] (main_arg2 : FVec F S1024x128 .f32) (main_v14 : IVec S_ 1) (main_v16 : FVec F S1024x128 .f32) : IVec S_ 1 :=
  let main_v17 : IVec S1024x128 1 := cmpf .oeq main_arg2 main_v16
  let main_c_5 : IVec S_ 1 := constantI S_ 1 1#1
  let main_v18 : IVec S_ 1 := (fun x v => Host.reduce IntOp.andi x v reducesTo_S1024x128_S_d0_1 h_S_) main_v17 main_c_5
  let main_v19 : IVec S_ 1 := andi main_v14 main_v18
  let main_v20 : FVec F S1023x128 .f32 := (extractStridedSlice S1023x128 ![0, 0] · slices_S1024x128_S1023x128_0_0) main_arg2
  let main_v21 : FVec F S1023x128 .f32 := (extractStridedSlice S1023x128 ![1, 0] · slices_S1024x128_S1023x128_1_0) main_arg2
  let main_v22 : IVec S1023x128 1 := cmpf .olt main_v20 main_v21
  let main_c_6 : IVec S_ 1 := constantI S_ 1 1#1
  let main_v23 : IVec S_ 1 := (fun x v => Host.reduce IntOp.andi x v reducesTo_S1023x128_S_d0_1 h_S_) main_v22 main_c_6
  let main_v24 : IVec S_ 1 := andi main_v19 main_v23
  main_v24

def fn {F : FTy → Type} [FloatOps F] (main_arg0 : FVec F S16x4096x128 .f32) (main_arg1 : FVec F S128x128 .f32) (main_arg2 : FVec F S1024x128 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S1024x128 .f32 := Host.absf main_arg2
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128x128 .f32 := mulf main_arg1 main_arg1
  let main_cst_2 : FVec F S_ .f32 := constant S_ .f32 0x00000000#32
  let main_v10 : FVec F S128 .f32 := (fun x v => Host.reduceAdd x v reducesTo_S128x128_S128_d1 h_S_) main_v9 main_cst_2
  let main_cst_3 : FVec F S_ .f32 := constant S_ .f32 0x00000000#32
  let main_v11 : FVec F S128 .f32 := broadcastInDim S128 ![] bcast_S_S128 main_cst_3
  let main_v12 : IVec S128 1 := cmpf .ogt main_v10 main_v11
  let main_c_4 : IVec S_ 1 := constantI S_ 1 1#1
  let main_v13 : IVec S_ 1 := (fun x v => Host.reduce IntOp.andi x v reducesTo_S128_S_d0 h_S_) main_v12 main_c_4
  let main_v14 : IVec S_ 1 := andi main_v8 main_v13
  let main_v15 : FVec F S1024x1 .f32 := (extractStridedSlice S1024x1 ![0, 0] · slices_S1024x128_S1024x1_0_0) main_arg2
  let main_v16 : FVec F S1024x128 .f32 := broadcastInDim S1024x128 ![0, 1] bcast_S1024x1_S1024x128_0_1 main_v15
  fn_part1 (F := F) main_arg2 main_v14 main_v16
-- ==== Kernel.lean ====
abbrev S16x4096x128 : Shape := ⟨3, ![16, 4096, 128]⟩
abbrev S128x128 : Shape := ⟨2, ![128, 128]⟩
abbrev S1024x128 : Shape := ⟨2, ![1024, 128]⟩
abbrev S_ : Shape := ⟨0, ![]⟩
abbrev S4097 : Shape := ⟨1, ![4097]⟩
abbrev S1 : Shape := ⟨1, ![1]⟩
abbrev S4098 : Shape := ⟨1, ![4098]⟩
abbrev S4096 : Shape := ⟨1, ![4096]⟩
abbrev S1025 : Shape := ⟨1, ![1025]⟩
abbrev S1026 : Shape := ⟨1, ![1026]⟩
abbrev S1024 : Shape := ⟨1, ![1024]⟩
abbrev S1x4096 : Shape := ⟨2, ![1, 4096]⟩
abbrev S1024x1 : Shape := ⟨2, ![1024, 1]⟩
abbrev S1024x4096 : Shape := ⟨2, ![1024, 4096]⟩
abbrev S4 : Shape := ⟨1, ![4]⟩
abbrev S1x4 : Shape := ⟨2, ![1, 4]⟩
abbrev S1024x4 : Shape := ⟨2, ![1024, 4]⟩
abbrev S16x128x1024 : Shape := ⟨3, ![16, 128, 1024]⟩
abbrev S1x4096x128 : Shape := ⟨3, ![1, 4096, 128]⟩
abbrev S1x128x1024 : Shape := ⟨3, ![1, 128, 1024]⟩
abbrev S8x128 : Shape := ⟨2, ![8, 128]⟩
abbrev S4096x128 : Shape := ⟨2, ![4096, 128]⟩
abbrev S128 : Shape := ⟨1, ![128]⟩
abbrev S128x1 : Shape := ⟨2, ![128, 1]⟩
abbrev S1x128 : Shape := ⟨2, ![1, 128]⟩
abbrev S2048x2x1x128 : Shape := ⟨4, ![2048, 2, 1, 128]⟩
abbrev S2048x1x1x128 : Shape := ⟨4, ![2048, 1, 1, 128]⟩
abbrev S2048x1x128 : Shape := ⟨3, ![2048, 1, 128]⟩
abbrev S1024x2x2x1x128 : Shape := ⟨5, ![1024, 2, 2, 1, 128]⟩
abbrev S1024x1x1x1x128 : Shape := ⟨5, ![1024, 1, 1, 1, 128]⟩
abbrev S1024x1x128 : Shape := ⟨3, ![1024, 1, 128]⟩
abbrev S1024x1x1x128 : Shape := ⟨4, ![1024, 1, 1, 128]⟩
abbrev S1024x4x1x128 : Shape := ⟨4, ![1024, 4, 1, 128]⟩
abbrev S512x2x2x2x128 : Shape := ⟨5, ![512, 2, 2, 2, 128]⟩
abbrev S512x1x1x2x128 : Shape := ⟨5, ![512, 1, 1, 2, 128]⟩
abbrev S512x2x128 : Shape := ⟨3, ![512, 2, 128]⟩
abbrev S512x1x2x128 : Shape := ⟨4, ![512, 1, 2, 128]⟩
abbrev S512x4x2x128 : Shape := ⟨4, ![512, 4, 2, 128]⟩
abbrev S256x2x2x4x128 : Shape := ⟨5, ![256, 2, 2, 4, 128]⟩
abbrev S256x1x1x4x128 : Shape := ⟨5, ![256, 1, 1, 4, 128]⟩
abbrev S256x4x128 : Shape := ⟨3, ![256, 4, 128]⟩
abbrev S256x1x4x128 : Shape := ⟨4, ![256, 1, 4, 128]⟩
abbrev S256x4x4x128 : Shape := ⟨4, ![256, 4, 4, 128]⟩
abbrev S128x2x2x8x128 : Shape := ⟨5, ![128, 2, 2, 8, 128]⟩
abbrev S128x1x1x8x128 : Shape := ⟨5, ![128, 1, 1, 8, 128]⟩
abbrev S128x8x128 : Shape := ⟨3, ![128, 8, 128]⟩
abbrev S128x1x8x128 : Shape := ⟨4, ![128, 1, 8, 128]⟩
abbrev S128x4x8x128 : Shape := ⟨4, ![128, 4, 8, 128]⟩
abbrev S64x2x2x16x128 : Shape := ⟨5, ![64, 2, 2, 16, 128]⟩
abbrev S64x1x1x16x128 : Shape := ⟨5, ![64, 1, 1, 16, 128]⟩
abbrev S64x16x128 : Shape := ⟨3, ![64, 16, 128]⟩
abbrev S64x1x16x128 : Shape := ⟨4, ![64, 1, 16, 128]⟩
abbrev S64x4x16x128 : Shape := ⟨4, ![64, 4, 16, 128]⟩
abbrev S32x2x2x32x128 : Shape := ⟨5, ![32, 2, 2, 32, 128]⟩
abbrev S32x1x1x32x128 : Shape := ⟨5, ![32, 1, 1, 32, 128]⟩
abbrev S32x32x128 : Shape := ⟨3, ![32, 32, 128]⟩
abbrev S32x1x32x128 : Shape := ⟨4, ![32, 1, 32, 128]⟩
abbrev S32x4x32x128 : Shape := ⟨4, ![32, 4, 32, 128]⟩
abbrev S16x2x2x64x128 : Shape := ⟨5, ![16, 2, 2, 64, 128]⟩
abbrev S16x1x1x64x128 : Shape := ⟨5, ![16, 1, 1, 64, 128]⟩
abbrev S16x64x128 : Shape := ⟨3, ![16, 64, 128]⟩
abbrev S16x1x64x128 : Shape := ⟨4, ![16, 1, 64, 128]⟩
abbrev S16x4x64x128 : Shape := ⟨4, ![16, 4, 64, 128]⟩
abbrev S8x2x2x128x128 : Shape := ⟨5, ![8, 2, 2, 128, 128]⟩
abbrev S8x1x1x128x128 : Shape := ⟨5, ![8, 1, 1, 128, 128]⟩
abbrev S8x128x128 : Shape := ⟨3, ![8, 128, 128]⟩
abbrev S8x1x128x128 : Shape := ⟨4, ![8, 1, 128, 128]⟩
abbrev S8x4x128x128 : Shape := ⟨4, ![8, 4, 128, 128]⟩
abbrev S4x2x2x256x128 : Shape := ⟨5, ![4, 2, 2, 256, 128]⟩
abbrev S4x1x1x256x128 : Shape := ⟨5, ![4, 1, 1, 256, 128]⟩
abbrev S4x256x128 : Shape := ⟨3, ![4, 256, 128]⟩
abbrev S4x1x256x128 : Shape := ⟨4, ![4, 1, 256, 128]⟩
abbrev S4x4x256x128 : Shape := ⟨4, ![4, 4, 256, 128]⟩
abbrev S2x2x2x512x128 : Shape := ⟨5, ![2, 2, 2, 512, 128]⟩
abbrev S2x1x1x512x128 : Shape := ⟨5, ![2, 1, 1, 512, 128]⟩
abbrev S2x512x128 : Shape := ⟨3, ![2, 512, 128]⟩
abbrev S2x1x512x128 : Shape := ⟨4, ![2, 1, 512, 128]⟩
abbrev S2x4x512x128 : Shape := ⟨4, ![2, 4, 512, 128]⟩
abbrev S1x2x2x1024x128 : Shape := ⟨5, ![1, 2, 2, 1024, 128]⟩
abbrev S1x1x1x1024x128 : Shape := ⟨5, ![1, 1, 1, 1024, 128]⟩
abbrev S1x1024x128 : Shape := ⟨3, ![1, 1024, 128]⟩
abbrev S1x1x128 : Shape := ⟨3, ![1, 1, 128]⟩
abbrev S1x1x1024x128 : Shape := ⟨4, ![1, 1, 1024, 128]⟩
abbrev S1x4x1024x128 : Shape := ⟨4, ![1, 4, 1024, 128]⟩
abbrev S1024x4x128 : Shape := ⟨3, ![1024, 4, 128]⟩
abbrev S1023x1 : Shape := ⟨2, ![1023, 1]⟩
abbrev S1x1 : Shape := ⟨2, ![1, 1]⟩
abbrev S1023x128 : Shape := ⟨2, ![1023, 128]⟩
abbrev S128x1024 : Shape := ⟨2, ![128, 1024]⟩

abbrev nBuf : Space → Nat
  | .hbm => 152
  | .vmem => 9
  | .smem => 0
  | _ => 0

abbrev hbmTy0_0 (i : Nat) : BufTy := match i % 128 with
  | 0 => ⟨S16x4096x128, .f32⟩
  | 1 => ⟨S128x128, .f32⟩
  | 2 => ⟨S1024x128, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S4097, .f32⟩
  | 11 => ⟨S_, .f32⟩
  | 12 => ⟨S4097, .f32⟩
  | 13 => ⟨S4097, .f32⟩
  | 14 => ⟨S1, .f32⟩
  | 15 => ⟨S_, .f32⟩
  | 16 => ⟨S4097, .f32⟩
  | 17 => ⟨S4097, .f32⟩
  | 18 => ⟨S4097, .f32⟩
  | 19 => ⟨S4097, .f32⟩
  | 20 => ⟨S1, .f32⟩
  | 21 => ⟨S4097, .f32⟩
  | 22 => ⟨S4097, .f32⟩
  | 23 => ⟨S4097, .f32⟩
  | 24 => ⟨S1, .f32⟩
  | 25 => ⟨S4098, .f32⟩
  | 26 => ⟨S4096, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S1025, .f32⟩
  | 35 => ⟨S_, .f32⟩
  | 36 => ⟨S1025, .f32⟩
  | 37 => ⟨S1025, .f32⟩
  | 38 => ⟨S1, .f32⟩
  | 39 => ⟨S_, .f32⟩
  | 40 => ⟨S1025, .f32⟩
  | 41 => ⟨S1025, .f32⟩
  | 42 => ⟨S1025, .f32⟩
  | 43 => ⟨S1025, .f32⟩
  | 44 => ⟨S1, .f32⟩
  | 45 => ⟨S1025, .f32⟩
  | 46 => ⟨S1025, .f32⟩
  | 47 => ⟨S1025, .f32⟩
  | 48 => ⟨S1, .f32⟩
  | 49 => ⟨S1026, .f32⟩
  | 50 => ⟨S1024, .f32⟩
  | 51 => ⟨S1x4096, .f32⟩
  | 52 => ⟨S1024x1, .f32⟩
  | 53 => ⟨S1024x4096, .f32⟩
  | 54 => ⟨S1024x4096, .f32⟩
  | 55 => ⟨S1024x4096, .i1⟩
  | 56 => ⟨S1024x4096, .i32⟩
  | 57 => ⟨S_, .i32⟩
  | 58 => ⟨S1024, .i32⟩
  | 59 => ⟨S_, .i32⟩
  | 60 => ⟨S1024, .i32⟩
  | 61 => ⟨S1024, .i32⟩
  | 62 => ⟨S_, .i32⟩
  | 63 => ⟨S_, .i32⟩
  | 64 => ⟨S_, .i32⟩
  | 65 => ⟨S1024, .i32⟩
  | 66 => ⟨S1024, .i32⟩
  | 67 => ⟨S_, .i32⟩
  | 68 => ⟨S1024, .i32⟩
  | 69 => ⟨S1024, .i32⟩
  | 70 => ⟨S1024x1, .i32⟩
  | 71 => ⟨S1024, .f32⟩
  | 72 => ⟨S_, .i32⟩
  | 73 => ⟨S1024, .i32⟩
  | 74 => ⟨S1024, .i32⟩
  | 75 => ⟨S1024x1, .i32⟩
  | 76 => ⟨S1024, .f32⟩
  | 77 => ⟨S1024, .f32⟩
  | 78 => ⟨S1024, .f32⟩
  | 79 => ⟨S_, .f32⟩
  | 80 => ⟨S1024, .f32⟩
  | 81 => ⟨S1024, .f32⟩
  | 82 => ⟨S1024, .f32⟩
  | 83 => ⟨S1024, .i32⟩
  | 84 => ⟨S4, .i32⟩
  | 85 => ⟨S1x4, .i32⟩
  | 86 => ⟨S_, .i32⟩
  | 87 => ⟨S1024, .i32⟩
  | 88 => ⟨S1024, .i32⟩
  | 89 => ⟨S1024, .i32⟩
  | 90 => ⟨S1024x1, .i32⟩
  | 91 => ⟨S1024x4, .i32⟩
  | 92 => ⟨S1024x4, .i32⟩
  | 93 => ⟨S1024x4, .i1⟩
  | 94 => ⟨S_, .f32⟩
  | 95 => ⟨S1024, .f32⟩
  | 96 => ⟨S1024, .f32⟩
  | 97 => ⟨S1024x1, .f32⟩
  | 98 => ⟨S_, .f32⟩
  | 99 => ⟨S_, .f32⟩
  | 100 => ⟨S1024x4, .f32⟩
  | 101 => ⟨S1024x4, .f32⟩
  | 102 => ⟨S1024x4, .f32⟩
  | 103 => ⟨S_, .i32⟩
  | 104 => ⟨S1024x1, .i32⟩
  | 105 => ⟨S1024x1, .i32⟩
  | 106 => ⟨S1024x4, .i32⟩
  | 107 => ⟨S1024x4, .i32⟩
  | 108 => ⟨S1024x4, .i1⟩
  | 109 => ⟨S1024x1, .f32⟩
  | 110 => ⟨S_, .f32⟩
  | 111 => ⟨S_, .f32⟩
  | 112 => ⟨S1024x4, .f32⟩
  | 113 => ⟨S1024x4, .f32⟩
  | 114 => ⟨S1024x4, .f32⟩
  | 115 => ⟨S1024x4, .f32⟩
  | 116 => ⟨S1024, .i32⟩
  | 117 => ⟨S_, .i32⟩
  | 118 => ⟨S1024, .i32⟩
  | 119 => ⟨S1024, .i32⟩
  | 120 => ⟨S1024, .f32⟩
  | 121 => ⟨S_, .i32⟩
  | 122 => ⟨S1024, .i32⟩
  | 123 => ⟨S1024, .i32⟩
  | 124 => ⟨S1024, .i32⟩
  | 125 => ⟨S1024x1, .i32⟩
  | 126 => ⟨S1024x4, .i32⟩
  | 127 => ⟨S1024x4, .i32⟩
  | _ => ⟨S16x4096x128, .f32⟩

abbrev hbmTy0_1 (i : Nat) : BufTy := match i % 128 with
  | 0 => ⟨S1024x4, .i1⟩
  | 1 => ⟨S_, .f32⟩
  | 2 => ⟨S1024, .f32⟩
  | 3 => ⟨S1024, .f32⟩
  | 4 => ⟨S1024x1, .f32⟩
  | 5 => ⟨S_, .f32⟩
  | 6 => ⟨S_, .f32⟩
  | 7 => ⟨S1024x4, .f32⟩
  | 8 => ⟨S1024x4, .f32⟩
  | 9 => ⟨S1024x4, .f32⟩
  | 10 => ⟨S_, .i32⟩
  | 11 => ⟨S1024x1, .i32⟩
  | 12 => ⟨S1024x1, .i32⟩
  | 13 => ⟨S1024x4, .i32⟩
  | 14 => ⟨S1024x4, .i32⟩
  | 15 => ⟨S1024x4, .i1⟩
  | 16 => ⟨S1024x1, .f32⟩
  | 17 => ⟨S_, .f32⟩
  | 18 => ⟨S_, .f32⟩
  | 19 => ⟨S1024x4, .f32⟩
  | 20 => ⟨S1024x4, .f32⟩
  | 21 => ⟨S1024x4, .f32⟩
  | 22 => ⟨S1024x4, .f32⟩
  | 23 => ⟨S16x128x1024, .f32⟩
  | _ => ⟨S16x4096x128, .f32⟩

abbrev hbmTy (i : Nat) : BufTy := match i / 128 with
  | 0 => hbmTy0_0 i
  | 1 => hbmTy0_1 i
  | _ => ⟨S16x4096x128, .f32⟩

abbrev bufTy : (tb : Table) → Fin (tcTables nBuf tb) → BufTy
  | .hbm, ⟨i, _⟩ => hbmTy i
  | .local _ .vmem, ⟨0, _⟩ => ⟨S1x4096x128, .f32⟩
  | .local _ .vmem, ⟨1, _⟩ => ⟨S1x4096x128, .f32⟩
  | .local _ .vmem, ⟨2, _⟩ => ⟨S128x128, .f32⟩
  | .local _ .vmem, ⟨3, _⟩ => ⟨S1024x128, .f32⟩
  | .local _ .vmem, ⟨4, _⟩ => ⟨S1024x4, .f32⟩
  | .local _ .vmem, ⟨5, _⟩ => ⟨S1024x4, .f32⟩
  | .local _ .vmem, ⟨6, _⟩ => ⟨S1x128x1024, .f32⟩
  | .local _ .vmem, ⟨7, _⟩ => ⟨S1x128x1024, .f32⟩
  | .local _ .vmem, ⟨8, _⟩ => ⟨S8x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_cst_0 : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_cst : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_cst_0 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_cst_1 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_call0_v12 : Ref sig .tc := ⟨.hbm, 20, rfl⟩
abbrev main_call0_call0_v13 : Ref sig .tc := ⟨.hbm, 21, rfl⟩
abbrev main_call0_call0_v14 : Ref sig .tc := ⟨.hbm, 22, rfl⟩
abbrev main_call0_call0_v15 : Ref sig .tc := ⟨.hbm, 23, rfl⟩
abbrev main_call0_call0_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst_1 : Ref sig .tc := ⟨.hbm, 27, rfl⟩
abbrev main_call0_cst_2 : Ref sig .tc := ⟨.hbm, 28, rfl⟩
abbrev main_call0_call1_v0 : Ref sig .tc := ⟨.hbm, 29, rfl⟩
abbrev main_call0_call1_v1 : Ref sig .tc := ⟨.hbm, 30, rfl⟩
abbrev main_call0_call1_v2 : Ref sig .tc := ⟨.hbm, 31, rfl⟩
abbrev main_call0_call1_cst : Ref sig .tc := ⟨.hbm, 32, rfl⟩
abbrev main_call0_call1_v3 : Ref sig .tc := ⟨.hbm, 33, rfl⟩
abbrev main_call0_call1_v4 : Ref sig .tc := ⟨.hbm, 34, rfl⟩
abbrev main_call0_call1_cst_0 : Ref sig .tc := ⟨.hbm, 35, rfl⟩
abbrev main_call0_call1_v5 : Ref sig .tc := ⟨.hbm, 36, rfl⟩
abbrev main_call0_call1_v6 : Ref sig .tc := ⟨.hbm, 37, rfl⟩
abbrev main_call0_call1_v7 : Ref sig .tc := ⟨.hbm, 38, rfl⟩
abbrev main_call0_call1_cst_1 : Ref sig .tc := ⟨.hbm, 39, rfl⟩
abbrev main_call0_call1_v8 : Ref sig .tc := ⟨.hbm, 40, rfl⟩
abbrev main_call0_call1_v9 : Ref sig .tc := ⟨.hbm, 41, rfl⟩
abbrev main_call0_call1_v10 : Ref sig .tc := ⟨.hbm, 42, rfl⟩
abbrev main_call0_call1_v11 : Ref sig .tc := ⟨.hbm, 43, rfl⟩
abbrev main_call0_call1_v12 : Ref sig .tc := ⟨.hbm, 44, rfl⟩
abbrev main_call0_call1_v13 : Ref sig .tc := ⟨.hbm, 45, rfl⟩
abbrev main_call0_call1_v14 : Ref sig .tc := ⟨.hbm, 46, rfl⟩
abbrev main_call0_call1_v15 : Ref sig .tc := ⟨.hbm, 47, rfl⟩
abbrev main_call0_call1_v16 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_c : Ref sig .tc := ⟨.hbm, 57, rfl⟩
abbrev main_call0_v10 : Ref sig .tc := ⟨.hbm, 58, rfl⟩
abbrev main_call0_c_3 : Ref sig .tc := ⟨.hbm, 59, rfl⟩
abbrev main_call0_v11 : Ref sig .tc := ⟨.hbm, 60, rfl⟩
abbrev main_call0_v12 : Ref sig .tc := ⟨.hbm, 61, rfl⟩
abbrev main_call0_c_4 : Ref sig .tc := ⟨.hbm, 62, rfl⟩
abbrev main_call0_c_5 : Ref sig .tc := ⟨.hbm, 63, rfl⟩
abbrev main_call0_call2_v0 : Ref sig .tc := ⟨.hbm, 64, rfl⟩
abbrev main_call0_call2_v1 : Ref sig .tc := ⟨.hbm, 65, rfl⟩
abbrev main_call0_call2_v2 : Ref sig .tc := ⟨.hbm, 66, rfl⟩
abbrev main_call0_call2_v3 : Ref sig .tc := ⟨.hbm, 67, rfl⟩
abbrev main_call0_call2_v4 : Ref sig .tc := ⟨.hbm, 68, rfl⟩
abbrev main_call0_v13 : Ref sig .tc := ⟨.hbm, 69, rfl⟩
abbrev main_call0_call3_v0 : Ref sig .tc := ⟨.hbm, 70, rfl⟩
abbrev main_call0_v14 : Ref sig .tc := ⟨.hbm, 71, rfl⟩
abbrev main_call0_c_6 : Ref sig .tc := ⟨.hbm, 72, rfl⟩
abbrev main_call0_v15 : Ref sig .tc := ⟨.hbm, 73, rfl⟩
abbrev main_call0_v16 : Ref sig .tc := ⟨.hbm, 74, rfl⟩
abbrev main_call0_call4_v0 : Ref sig .tc := ⟨.hbm, 75, rfl⟩
abbrev main_call0_v17 : Ref sig .tc := ⟨.hbm, 76, rfl⟩
abbrev main_call0_v18 : Ref sig .tc := ⟨.hbm, 77, rfl⟩
abbrev main_call0_v19 : Ref sig .tc := ⟨.hbm, 78, rfl⟩
abbrev main_call0_cst_7 : Ref sig .tc := ⟨.hbm, 79, rfl⟩
abbrev main_call0_v20 : Ref sig .tc := ⟨.hbm, 80, rfl⟩
abbrev main_call0_v21 : Ref sig .tc := ⟨.hbm, 81, rfl⟩
abbrev main_call0_v22 : Ref sig .tc := ⟨.hbm, 82, rfl⟩
abbrev main_call0_v23 : Ref sig .tc := ⟨.hbm, 83, rfl⟩
abbrev main_call0_v24 : Ref sig .tc := ⟨.hbm, 84, rfl⟩
abbrev main_call0_v25 : Ref sig .tc := ⟨.hbm, 85, rfl⟩
abbrev main_call0_c_8 : Ref sig .tc := ⟨.hbm, 86, rfl⟩
abbrev main_call0_v26 : Ref sig .tc := ⟨.hbm, 87, rfl⟩
abbrev main_call0_v27 : Ref sig .tc := ⟨.hbm, 88, rfl⟩
abbrev main_call0_v28 : Ref sig .tc := ⟨.hbm, 89, rfl⟩
abbrev main_call0_v29 : Ref sig .tc := ⟨.hbm, 90, rfl⟩
abbrev main_call0_v30 : Ref sig .tc := ⟨.hbm, 91, rfl⟩
abbrev main_call0_v31 : Ref sig .tc := ⟨.hbm, 92, rfl⟩
abbrev main_call0_v32 : Ref sig .tc := ⟨.hbm, 93, rfl⟩
abbrev main_call0_cst_9 : Ref sig .tc := ⟨.hbm, 94, rfl⟩
abbrev main_call0_v33 : Ref sig .tc := ⟨.hbm, 95, rfl⟩
abbrev main_call0_v34 : Ref sig .tc := ⟨.hbm, 96, rfl⟩
abbrev main_call0_v35 : Ref sig .tc := ⟨.hbm, 97, rfl⟩
abbrev main_call0_cst_10 : Ref sig .tc := ⟨.hbm, 98, rfl⟩
abbrev main_call0_call5_v0 : Ref sig .tc := ⟨.hbm, 99, rfl⟩
abbrev main_call0_call5_v1 : Ref sig .tc := ⟨.hbm, 100, rfl⟩
abbrev main_call0_call5_v2 : Ref sig .tc := ⟨.hbm, 101, rfl⟩
abbrev main_call0_v36 : Ref sig .tc := ⟨.hbm, 102, rfl⟩
abbrev main_call0_c_11 : Ref sig .tc := ⟨.hbm, 103, rfl⟩
abbrev main_call0_v37 : Ref sig .tc := ⟨.hbm, 104, rfl⟩
abbrev main_call0_v38 : Ref sig .tc := ⟨.hbm, 105, rfl⟩
abbrev main_call0_v39 : Ref sig .tc := ⟨.hbm, 106, rfl⟩
abbrev main_call0_v40 : Ref sig .tc := ⟨.hbm, 107, rfl⟩
abbrev main_call0_v41 : Ref sig .tc := ⟨.hbm, 108, rfl⟩
abbrev main_call0_v42 : Ref sig .tc := ⟨.hbm, 109, rfl⟩
abbrev main_call0_cst_12 : Ref sig .tc := ⟨.hbm, 110, rfl⟩
abbrev main_call0_call6_v0 : Ref sig .tc := ⟨.hbm, 111, rfl⟩
abbrev main_call0_call6_v1 : Ref sig .tc := ⟨.hbm, 112, rfl⟩
abbrev main_call0_call6_v2 : Ref sig .tc := ⟨.hbm, 113, rfl⟩
abbrev main_call0_v43 : Ref sig .tc := ⟨.hbm, 114, rfl⟩
abbrev main_call0_v44 : Ref sig .tc := ⟨.hbm, 115, rfl⟩
abbrev main_call0_v45 : Ref sig .tc := ⟨.hbm, 116, rfl⟩
abbrev main_call0_c_13 : Ref sig .tc := ⟨.hbm, 117, rfl⟩
abbrev main_call0_v46 : Ref sig .tc := ⟨.hbm, 118, rfl⟩
abbrev main_call0_v47 : Ref sig .tc := ⟨.hbm, 119, rfl⟩
abbrev main_call0_v48 : Ref sig .tc := ⟨.hbm, 120, rfl⟩
abbrev main_call0_c_14 : Ref sig .tc := ⟨.hbm, 121, rfl⟩
abbrev main_call0_v49 : Ref sig .tc := ⟨.hbm, 122, rfl⟩
abbrev main_call0_v50 : Ref sig .tc := ⟨.hbm, 123, rfl⟩
abbrev main_call0_v51 : Ref sig .tc := ⟨.hbm, 124, rfl⟩
abbrev main_call0_v52 : Ref sig .tc := ⟨.hbm, 125, rfl⟩
abbrev main_call0_v53 : Ref sig .tc := ⟨.hbm, 126, rfl⟩
abbrev main_call0_v54 : Ref sig .tc := ⟨.hbm, 127, rfl⟩
abbrev main_call0_v55 : Ref sig .tc := ⟨.hbm, 128, rfl⟩
abbrev main_call0_cst_15 : Ref sig .tc := ⟨.hbm, 129, rfl⟩
abbrev main_call0_v56 : Ref sig .tc := ⟨.hbm, 130, rfl⟩
abbrev main_call0_v57 : Ref sig .tc := ⟨.hbm, 131, rfl⟩
abbrev main_call0_v58 : Ref sig .tc := ⟨.hbm, 132, rfl⟩
abbrev main_call0_cst_16 : Ref sig .tc := ⟨.hbm, 133, rfl⟩
abbrev main_call0_call7_v0 : Ref sig .tc := ⟨.hbm, 134, rfl⟩
abbrev main_call0_call7_v1 : Ref sig .tc := ⟨.hbm, 135, rfl⟩
abbrev main_call0_call7_v2 : Ref sig .tc := ⟨.hbm, 136, rfl⟩
abbrev main_call0_v59 : Ref sig .tc := ⟨.hbm, 137, rfl⟩
abbrev main_call0_c_17 : Ref sig .tc := ⟨.hbm, 138, rfl⟩
abbrev main_call0_v60 : Ref sig .tc := ⟨.hbm, 139, rfl⟩
abbrev main_call0_v61 : Ref sig .tc := ⟨.hbm, 140, rfl⟩
abbrev main_call0_v62 : Ref sig .tc := ⟨.hbm, 141, rfl⟩
abbrev main_call0_v63 : Ref sig .tc := ⟨.hbm, 142, rfl⟩
abbrev main_call0_v64 : Ref sig .tc := ⟨.hbm, 143, rfl⟩
abbrev main_call0_v65 : Ref sig .tc := ⟨.hbm, 144, rfl⟩
abbrev main_call0_cst_18 : Ref sig .tc := ⟨.hbm, 145, rfl⟩
abbrev main_call0_call8_v0 : Ref sig .tc := ⟨.hbm, 146, rfl⟩
abbrev main_call0_call8_v1 : Ref sig .tc := ⟨.hbm, 147, rfl⟩
abbrev main_call0_call8_v2 : Ref sig .tc := ⟨.hbm, 148, rfl⟩
abbrev main_call0_v66 : Ref sig .tc := ⟨.hbm, 149, rfl⟩
abbrev main_call0_v67 : Ref sig .tc := ⟨.hbm, 150, rfl⟩
abbrev main_v0 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x4096x128 : Shape := ⟨3, ![16, 4096, 128]⟩
abbrev S128x128 : Shape := ⟨2, ![128, 128]⟩
abbrev S1024x128 : Shape := ⟨2, ![1024, 128]⟩
abbrev S_ : Shape := ⟨0, ![]⟩
abbrev S128 : Shape := ⟨1, ![128]⟩
abbrev S128x1 : Shape := ⟨2, ![128, 1]⟩
abbrev S4097 : Shape := ⟨1, ![4097]⟩
abbrev S1 : Shape := ⟨1, ![1]⟩
abbrev S4098 : Shape := ⟨1, ![4098]⟩
abbrev S4096 : Shape := ⟨1, ![4096]⟩
abbrev S1025 : Shape := ⟨1, ![1025]⟩
abbrev S1026 : Shape := ⟨1, ![1026]⟩
abbrev S1024 : Shape := ⟨1, ![1024]⟩
abbrev S1x4096 : Shape := ⟨2, ![1, 4096]⟩
abbrev S1024x1 : Shape := ⟨2, ![1024, 1]⟩
abbrev S1024x4096 : Shape := ⟨2, ![1024, 4096]⟩
abbrev S16x4095x128 : Shape := ⟨3, ![16, 4095, 128]⟩
abbrev S4095 : Shape := ⟨1, ![4095]⟩
abbrev S1x4095x1 : Shape := ⟨3, ![1, 4095, 1]⟩
abbrev S16x1024x128 : Shape := ⟨3, ![16, 1024, 128]⟩
abbrev S1x1024x1 : Shape := ⟨3, ![1, 1024, 1]⟩
abbrev S1x1024x128 : Shape := ⟨3, ![1, 1024, 128]⟩
abbrev S16x1024x128x1 : Shape := ⟨4, ![16, 1024, 128, 1]⟩
abbrev S16x128x1024 : Shape := ⟨3, ![16, 128, 1024]⟩

abbrev nBuf : Space → Nat
  | .hbm => 120
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S128x128, .f32⟩
  | .hbm, ⟨2, _⟩ => ⟨S1024x128, .f32⟩
  | .hbm, ⟨3, _⟩ => ⟨S128x128, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S128x128, .f32⟩
  | .hbm, ⟨9, _⟩ => ⟨S128x128, .f32⟩
  | .hbm, ⟨10, _⟩ => ⟨S16x4096x128, .f32⟩
  | .hbm, ⟨11, _⟩ => ⟨S16x4096x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4097, .f32⟩
  | .hbm, ⟨20, _⟩ => ⟨S_, .f32⟩
  | .hbm, ⟨21, _⟩ => ⟨S4097, .f32⟩
  | .hbm, ⟨22, _⟩ => ⟨S4097, .f32⟩
  | .hbm, ⟨23, _⟩ => ⟨S1, .f32⟩
  | .hbm, ⟨24, _⟩ => ⟨S_, .f32⟩
  | .hbm, ⟨25, _⟩ => ⟨S4097, .f32⟩
  | .hbm, ⟨26, _⟩ => ⟨S4097, .f32⟩
  | .hbm, ⟨27, _⟩ => ⟨S4097, .f32⟩
  | .hbm, ⟨28, _⟩ => ⟨S4097, .f32⟩
  | .hbm, ⟨29, _⟩ => ⟨S1, .f32⟩
  | .hbm, ⟨30, _⟩ => ⟨S4097, .f32⟩
  | .hbm, ⟨31, _⟩ => ⟨S4097, .f32⟩
  | .hbm, ⟨32, _⟩ => ⟨S4097, .f32⟩
  | .hbm, ⟨33, _⟩ => ⟨S1, .f32⟩
  | .hbm, ⟨34, _⟩ => ⟨S4098, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1025, .f32⟩
  | .hbm, ⟨44, _⟩ => ⟨S_, .f32⟩
  | .hbm, ⟨45, _⟩ => ⟨S1025, .f32⟩
  | .hbm, ⟨46, _⟩ => ⟨S1025, .f32⟩
  | .hbm, ⟨47, _⟩ => ⟨S1, .f32⟩
  | .hbm, ⟨48, _⟩ => ⟨S_, .f32⟩
  | .hbm, ⟨49, _⟩ => ⟨S1025, .f32⟩
  | .hbm, ⟨50, _⟩ => ⟨S1025, .f32⟩
  | .hbm, ⟨51, _⟩ => ⟨S1025, .f32⟩
  | .hbm, ⟨52, _⟩ => ⟨S1025, .f32⟩
  | .hbm, ⟨53, _⟩ => ⟨S1, .f32⟩
  | .hbm, ⟨54, _⟩ => ⟨S1025, .f32⟩
  | .hbm, ⟨55, _⟩ => ⟨S1025, .f32⟩
  | .hbm, ⟨56, _⟩ => ⟨S1025, .f32⟩
  | .hbm, ⟨57, _⟩ => ⟨S1, .f32⟩
  | .hbm, ⟨58, _⟩ => ⟨S1026, .f32⟩
  | .hbm, ⟨59, _⟩ => ⟨S1024, .f32⟩
  | .hbm, ⟨60, _⟩ => ⟨S1x4096, .f32⟩
  | .hbm, ⟨61, _⟩ => ⟨S1024x1, .f32⟩
  | .hbm, ⟨62, _⟩ => ⟨S1024x4096, .f32⟩
  | .hbm, ⟨63, _⟩ => ⟨S1024x4096, .f32⟩
  | .hbm, ⟨64, _⟩ => ⟨S1024x4096, .i1⟩
  | .hbm, ⟨65, _⟩ => ⟨S1024x4096, .i32⟩
  | .hbm, ⟨66, _⟩ => ⟨S_, .i32⟩
  | .hbm, ⟨67, _⟩ => ⟨S1024, .i32⟩
  | .hbm, ⟨68, _⟩ => ⟨S_, .i32⟩
  | .hbm, ⟨69, _⟩ => ⟨S1024, .i32⟩
  | .hbm, ⟨70, _⟩ => ⟨S1024, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1024, .i32⟩
  | .hbm, ⟨75, _⟩ => ⟨S1024, .i32⟩
  | .hbm, ⟨76, _⟩ => ⟨S_, .i32⟩
  | .hbm, ⟨77, _⟩ => ⟨S1024, .i32⟩
  | .hbm, ⟨78, _⟩ => ⟨S1024, .i32⟩
  | .hbm, ⟨79, _⟩ => ⟨S16x4095x128, .f32⟩
  | .hbm, ⟨80, _⟩ => ⟨S16x4095x128, .f32⟩
  | .hbm, ⟨81, _⟩ => ⟨S16x4095x128, .f32⟩
  | .hbm, ⟨82, _⟩ => ⟨S4095, .f32⟩
  | .hbm, ⟨83, _⟩ => ⟨S4095, .f32⟩
  | .hbm, ⟨84, _⟩ => ⟨S4095, .f32⟩
  | .hbm, ⟨85, _⟩ => ⟨S_, .f32⟩
  | .hbm, ⟨86, _⟩ => ⟨S4095, .f32⟩
  | .hbm, ⟨87, _⟩ => ⟨S4095, .f32⟩
  | .hbm, ⟨88, _⟩ => ⟨S1x4095x1, .f32⟩
  | .hbm, ⟨89, _⟩ => ⟨S16x4095x128, .f32⟩
  | .hbm, ⟨90, _⟩ => ⟨S16x4095x128, .f32⟩
  | .hbm, ⟨91, _⟩ => ⟨S1024x1, .i32⟩
  | .hbm, ⟨92, _⟩ => ⟨S1024, .f32⟩
  | .hbm, ⟨93, _⟩ => ⟨S1024x1, .i32⟩
  | .hbm, ⟨94, _⟩ => ⟨S16x1024x128, .f32⟩
  | .hbm, ⟨95, _⟩ => ⟨S1024x1, .i32⟩
  | .hbm, ⟨96, _⟩ => ⟨S16x1024x128, .f32⟩
  | .hbm, ⟨97, _⟩ => ⟨S1024, .f32⟩
  | .hbm, ⟨98, _⟩ => ⟨S1x1024x1, .f32⟩
  | .hbm, ⟨99, _⟩ => ⟨S16x1024x128, .f32⟩
  | .hbm, ⟨100, _⟩ => ⟨S16x1024x128, .f32⟩
  | .hbm, ⟨101, _⟩ => ⟨S16x1024x128, .f32⟩
  | .hbm, ⟨102, _⟩ => ⟨S128x128, .f32⟩
  | .hbm, ⟨103, _⟩ => ⟨S1024x128, .f32⟩
  | .hbm, ⟨104, _⟩ => ⟨S1x1024x128, .f32⟩
  | .hbm, ⟨105, _⟩ => ⟨S16x1024x128, .f32⟩
  | .hbm, ⟨106, _⟩ => ⟨S16x1024x128, .i32⟩
  | .hbm, ⟨107, _⟩ => ⟨S16x1024x128, .f32⟩
  | .hbm, ⟨108, _⟩ => ⟨S16x1024x128, .i32⟩
  | .hbm, ⟨109, _⟩ => ⟨S_, .i32⟩
  | .hbm, ⟨110, _⟩ => ⟨S16x1024x128, .i32⟩
  | .hbm, ⟨111, _⟩ => ⟨S16x1024x128, .i1⟩
  | .hbm, ⟨112, _⟩ => ⟨S_, .i32⟩
  | .hbm, ⟨113, _⟩ => ⟨S16x1024x128, .i32⟩
  | .hbm, ⟨114, _⟩ => ⟨S16x1024x128, .i32⟩
  | .hbm, ⟨115, _⟩ => ⟨S16x1024x128, .i32⟩
  | .hbm, ⟨116, _⟩ => ⟨S16x1024x128x1, .i32⟩
  | .hbm, ⟨117, _⟩ => ⟨S16x1024x128, .f32⟩
  | .hbm, ⟨118, _⟩ => ⟨S16x1024x128, .f32⟩
  | .hbm, ⟨119, _⟩ => ⟨S16x128x1024, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_cst_1 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_cst : Ref sig .tc := ⟨.hbm, 17, rfl⟩
abbrev main_call1_v3 : Ref sig .tc := ⟨.hbm, 18, rfl⟩
abbrev main_call1_v4 : Ref sig .tc := ⟨.hbm, 19, rfl⟩
abbrev main_call1_cst_0 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_cst_1 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_v12 : Ref sig .tc := ⟨.hbm, 29, rfl⟩
abbrev main_call1_v13 : Ref sig .tc := ⟨.hbm, 30, rfl⟩
abbrev main_call1_v14 : Ref sig .tc := ⟨.hbm, 31, rfl⟩
abbrev main_call1_v15 : Ref sig .tc := ⟨.hbm, 32, rfl⟩
abbrev main_call1_v16 : Ref sig .tc := ⟨.hbm, 33, rfl⟩
abbrev main_v8 : Ref sig .tc := ⟨.hbm, 34, rfl⟩
abbrev main_v9 : Ref sig .tc := ⟨.hbm, 35, rfl⟩
abbrev main_cst_2 : Ref sig .tc := ⟨.hbm, 36, rfl⟩
abbrev main_cst_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_cst : Ref sig .tc := ⟨.hbm, 41, rfl⟩
abbrev main_call2_v3 : Ref sig .tc := ⟨.hbm, 42, rfl⟩
abbrev main_call2_v4 : Ref sig .tc := ⟨.hbm, 43, rfl⟩
abbrev main_call2_cst_0 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_cst_1 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_call2_v15 : Ref sig .tc := ⟨.hbm, 56, rfl⟩
abbrev main_call2_v16 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_c : Ref sig .tc := ⟨.hbm, 66, rfl⟩
abbrev main_v18 : Ref sig .tc := ⟨.hbm, 67, rfl⟩
abbrev main_c_4 : Ref sig .tc := ⟨.hbm, 68, rfl⟩
abbrev main_v19 : Ref sig .tc := ⟨.hbm, 69, rfl⟩
abbrev main_v20 : Ref sig .tc := ⟨.hbm, 70, rfl⟩
abbrev main_c_5 : Ref sig .tc := ⟨.hbm, 71, rfl⟩
abbrev main_c_6 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_cst_7 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_call4_v0 : Ref sig .tc := ⟨.hbm, 91, rfl⟩
abbrev main_v33 : Ref sig .tc := ⟨.hbm, 92, rfl⟩
abbrev main_call5_v0 : Ref sig .tc := ⟨.hbm, 93, rfl⟩
abbrev main_v34 : Ref sig .tc := ⟨.hbm, 94, rfl⟩
abbrev main_call6_v0 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_call7_v0 : Ref sig .tc := ⟨.hbm, 106, rfl⟩
abbrev main_call7_v1_0 : Ref sig .tc := ⟨.hbm, 107, rfl⟩
abbrev main_v45 : Ref sig .tc := ⟨.hbm, 108, rfl⟩
abbrev main_call8_c : Ref sig .tc := ⟨.hbm, 109, rfl⟩
abbrev main_call8_v0 : Ref sig .tc := ⟨.hbm, 110, rfl⟩
abbrev main_call8_v1 : Ref sig .tc := ⟨.hbm, 111, rfl⟩
abbrev main_call8_c_0 : Ref sig .tc := ⟨.hbm, 112, rfl⟩
abbrev main_call8_v2 : Ref sig .tc := ⟨.hbm, 113, rfl⟩
abbrev main_call8_v3 : Ref sig .tc := ⟨.hbm, 114, rfl⟩
abbrev main_call8_v4 : Ref sig .tc := ⟨.hbm, 115, rfl⟩
abbrev main_call8_v5 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩

abbrev nD : Nat := 1
abbrev τ : Topo := Topo.v7x

variable {F : FTy → Type} [FloatOps F]
-- ==== Proof.Spec.lean ====
/-
  The embedding over the reals: the value both programs are proved to compute. A batch's points are projected on the unit
  directions, every direction's projections are sorted, the sorted values are interpolated at 1024 evenly spaced places, and
  the interpolated values are subtracted from the projected reference points in the order of those.
-/
module

public import Idealize.ShloMosaic.Lib.ValueIdx
public import Mathlib.Data.List.FinRange

@[expose] public section

noncomputable section

namespace Cert.Embedding

/-! ## The two grids -/

/-- The place of sample `i`: the `i`-th of 4096 evenly spaced interior points of [0, 1]. -/
def sampleAt (i : ℕ) : ℝ := ((i + 1 : ℕ) : ℝ) / 4097

/-- The place of query `m`: the `m`-th of 1024 evenly spaced interior points of [0, 1]. -/
def queryAt (m : ℕ) : ℝ := ((m + 1 : ℕ) : ℝ) / 1025

/-- The sample to the left of query `m`. -/
def left (m : ℕ) : ℕ := 4 * m + 2 - (3 * m + 3) / 1025

/-- Sample `i` lies before query `m` exactly if it is `left m` or comes before it. -/
theorem sampleAt_lt_queryAt (i m : ℕ) (hm : m < 1024) : sampleAt i < queryAt m ↔ i < left m + 1 := by
  have h : sampleAt i < queryAt m ↔ (i + 1) * 1025 < (m + 1) * 4097 := by
    unfold sampleAt queryAt
    rw [div_lt_div_iff₀ (by norm_num) (by norm_num)]
    exact_mod_cast Iff.rfl
  rw [h]
  unfold left
  omega

/-- The samples before query `m` number `left m + 1`. -/
theorem count_sampleAt (m : ℕ) (hm : m < 1024) [DecidablePred fun i => sampleAt i < queryAt m] :
    Nat.count (fun i => sampleAt i < queryAt m) 4096 = left m + 1 := by
  have hl : left m + 1 ≤ 4096 := by unfold left; omega
  have hc : ∀ n, n ≤ 4096 → Nat.count (fun i => sampleAt i < queryAt m) n = min n (left m + 1) := by
    intro n
    induction n with
    | zero => intro _; simp
    | succ n ih =>
      intro hn
      rw [Nat.count_succ, ih (by omega)]
      by_cases h : n < left m + 1
      · rw [if_pos ((sampleAt_lt_queryAt n m hm).mpr h)]; omega
      · rw [if_neg fun e => h ((sampleAt_lt_queryAt n m hm).mp e)]; omega
  rw [hc 4096 le_rfl]; omega

/-- A query's left sample is one of the first three of its four. -/
theorem left_bounds (m : ℕ) (hm : m < 1024) : 4 * m ≤ left m ∧ left m ≤ 4 * m + 2 := by unfold left; omega

/-- The small number added to the spacing of the samples. -/
def slack : ℝ := 1 / 8388608

/-- The spacing that the interpolation divides by. -/
def gap (i : ℕ) : ℝ := slack + (sampleAt (i + 1) - sampleAt i)

theorem gap_ne_zero (i : ℕ) : gap i ≠ 0 := by
  have : gap i = 1 / 8388608 + 1 / 4097 := by unfold gap slack sampleAt; push_cast; ring
  rw [this]; norm_num

/-- How far query `m` lies past its left sample, as a share of the spacing. -/
def share (m : ℕ) : ℝ := (queryAt m - sampleAt (left m)) / gap (left m)

/-- The sorted values read at query `m`: linear between the two samples around it. -/
def interpolated (v : ℕ → ℝ) (m : ℕ) : ℝ :=
  v (left m) + (v (left m + 1) - v (left m)) / gap (left m) * (queryAt m - sampleAt (left m))

/-- The same value as a weighted mean of the two samples. -/
theorem interpolated_eq (v : ℕ → ℝ) (m : ℕ) :
    interpolated v m = (1 - share m) * v (left m) + share m * v (left m + 1) := by
  unfold interpolated share
  have := gap_ne_zero (left m)
  field_simp
  ring

/-! ## Sorting -/

open scoped Classical in
/-- A vector's entries in increasing order, as a list. -/
def sortedList {n : ℕ} (u : Fin n → ℝ) : List ℝ := (List.ofFn u).mergeSort fun a b => decide (a ≤ b)

theorem length_sortedList {n : ℕ} (u : Fin n → ℝ) : (sortedList u).length = n := by
  unfold sortedList
  rw [List.length_mergeSort, List.length_ofFn]

/-- A vector's entries in increasing order. -/
def sorted {n : ℕ} (u : Fin n → ℝ) (i : Fin n) : ℝ := (sortedList u).get (i.cast (length_sortedList u).symm)

/-- A rearrangement that increases is the sorted vector. -/
theorem eq_sorted {n : ℕ} (u : Fin n → ℝ) (σ : Equiv.Perm (Fin n)) (h : Monotone (u ∘ σ)) : u ∘ σ = sorted u := by
  have h1 : (List.ofFn (u ∘ σ)).Perm (sortedList u) :=
    (σ.ofFn_comp_perm u).trans (List.mergeSort_perm _ _).symm
  have h2 : (List.ofFn (u ∘ σ)).Pairwise (· ≤ ·) := by
    rw [List.pairwise_ofFn]
    exact fun i j hij => h hij.le
  have h3 : (sortedList u).Pairwise (· ≤ ·) := by
    classical
    have := List.pairwise_mergeSort (le := fun a b : ℝ => decide (a ≤ b)) (fun a b c hab hbc => by simp only [decide_eq_true_eq] at *; exact hab.trans hbc)
      (fun a b => by simp only [Bool.or_eq_true, decide_eq_true_eq]; exact le_total a b) (List.ofFn u)
    unfold sortedList
    refine List.Pairwise.imp (fun {a b} hab => ?_) this
    simpa using hab
  have e := List.Perm.eq_of_pairwise (le := fun a b : ℝ => a ≤ b) (fun a b _ _ hab hba => le_antisymm hab hba) h2 h3 h1
  funext i
  unfold sorted
  rw [List.get_of_eq e.symm]
  simp

/-- A rearrangement that decreases is the sorted vector from its end. -/
theorem eq_sorted_rev {n : ℕ} (u : Fin n → ℝ) (σ : Equiv.Perm (Fin n)) (h : Antitone (u ∘ σ)) :
    u ∘ σ = sorted u ∘ Fin.rev := by
  have h' : Monotone (u ∘ (Fin.revPerm.trans σ)) := fun i j hij => h (Fin.rev_le_rev.mpr hij)
  have e := eq_sorted u _ h'
  funext i
  have := congrFun e i.rev
  simpa using this

/-! ## The embedding -/

/-- Direction `l`, coordinate `k`, at unit length. -/
def unit (θ : Fin 128 → Fin 128 → ℝ) (l k : Fin 128) : ℝ := θ l k / Real.sqrt (∑ j, θ l j * θ l j)

/-- A point's projection on direction `l`. -/
def proj (θ : Fin 128 → Fin 128 → ℝ) (p : Fin 128 → ℝ) (l : Fin 128) : ℝ := ∑ k, p k * unit θ l k

/-- The sorted projections of a batch on direction `l`, continued by zero. -/
def lane (X : Fin 4096 → Fin 128 → ℝ) (θ : Fin 128 → Fin 128 → ℝ) (l : Fin 128) (i : ℕ) : ℝ :=
  if h : i < 4096 then sorted (fun r => proj θ (X r) l) ⟨i, h⟩ else 0

/-- The sum of a direction's coordinates: the reference points lie along the diagonal, so its sign says whether their
    projections increase. -/
def slope (θ : Fin 128 → Fin 128 → ℝ) (l : Fin 128) : ℝ := ∑ k, unit θ l k

/-- The query whose value goes to reference point `m`: the `m`-th, or from the end where the projections decrease. -/
def place (θ : Fin 128 → Fin 128 → ℝ) (l : Fin 128) (m : Fin 1024) : Fin 1024 := if 0 ≤ slope θ l then m else m.rev

/-- One entry of the embedding: reference point `m` (all of whose coordinates are `r m`) on direction `l`, less the value
    interpolated at its place. -/
def entry (X : Fin 4096 → Fin 128 → ℝ) (θ : Fin 128 → Fin 128 → ℝ) (r : Fin 1024 → ℝ) (l : Fin 128) (m : Fin 1024) : ℝ :=
  r m * slope θ l - interpolated (lane X θ l) (place θ l m)

end Cert.Embedding

end
-- ==== Proof.Weights.lean ====
/-
  The two tables of weights, as the kernel's host operations build them from the left sample and the share of every query.
-/
module

public import proofs.«01_k».proof.Proof.Gen.KernelIdeal
public import proofs.«01_k».proof.Proof.Spec
public import Idealize.ShloMosaic.Lib.Routing.OpsSearch
public import Idealize.ShloMosaic.Lib.ValueIdx
public import Idealize.ShloMosaic.Lib.IdealHost

@[expose] public section

noncomputable section

namespace Cert.Embedding

open Cert.KernelIdeal Cert.KernelIdeal.Facts₀ Idealize.ShloMosaic Idealize.ShloMosaic.ValueIdx Idealize.ShloMosaic.Routing

variable [Cert.KernelIdeal.Facts₀]

/-- A vector as a column. -/
def column {α : Type} (x : S1024.Idx → α) : S1024x1.Idx → α := broadcastInDim S1024x1 ![0] bcast_S1024_S1024x1_0 x

theorem column_apply {α : Type} (x : S1024.Idx → α) (m : Fin 1024) : column x (ix2 m (0 : Fin 1)) = x (ix1 m) := bcCol bcast_S1024_S1024x1_0 x m

theorem ofBits_one : Ideal.ofBits .f32 0x3F800000#32 = ((1 : ℝ) : EReal) := by
  rw [Ideal.ofBits_one_f32]; norm_num

/-! ## The two tables of weights -/

/-- Where the table's column is the given one. -/
def atColumn (cols : IVec S1024x1 32) : IVec S1024x4 1 :=
  cmpi .eq (broadcastInDim S1024x4 ![0, 1] bcast_S1x4_S1024x4_0_1 (broadcastInDim S1x4 ![1] bcast_S4_S1x4_1 (iotaInDim S4 32 0)))
    (broadcastInDim S1024x4 ![0, 1] bcast_S1024x1_S1024x4_0_1 cols)

/-- A vector's entries at one column of each row, zero elsewhere. -/
def put (cols : IVec S1024x1 32) (v : FVec Ideal S1024 .f32) : FVec Ideal S1024x4 .f32 :=
  select (atColumn cols) (broadcastInDim S1024x4 ![0, 1] bcast_S1024x1_S1024x4_0_1 (column v))
    (broadcastInDim S1024x4 ![] bcast_S_S1024x4 (id (constant S_ .f32 0x00000000#32)))

theorem put_apply (cols : IVec S1024x1 32) (v : FVec Ideal S1024 .f32) (m : Fin 1024) (c : Fin 4) (k : ℕ) (hk : k < 2 ^ 32)
    (x : ℝ) (hc : cols (ix2 m (0 : Fin 1)) = BitVec.ofNat 32 k) (hv : v (ix1 m) = (x : EReal)) :
    put cols v (ix2 m c) = (((if c.val = k then x else 0) : ℝ) : EReal) := by
  have e1 : broadcastInDim S1024x4 ![0, 1] bcast_S1x4_S1024x4_0_1 (broadcastInDim S1x4 ![1] bcast_S4_S1x4_1 (iotaInDim S4 32 0)) (ix2 m c)
      = BitVec.ofNat 32 c.val := bcCols bcast_S4_S1x4_1 bcast_S1x4_S1024x4_0_1 _ m c
  have e2 : broadcastInDim S1024x4 ![0, 1] bcast_S1024x1_S1024x4_0_1 cols (ix2 m c) = BitVec.ofNat 32 k := by
    refine (broadcastInDim_apply _ _ _ _ (ix2 m (0 : Fin 1)) fun a => ?_).trans hc
    match a with
    | ⟨0, _⟩ => show m.val = if (1024 : ℕ) = 1 then 0 else m.val; rw [if_neg (by norm_num)]
    | ⟨1, _⟩ => rfl
  have e3 : broadcastInDim S1024x4 ![0, 1] bcast_S1024x1_S1024x4_0_1 (column v) (ix2 m c) = (x : EReal) := (bcRows bcast_S1024_S1024x1_0 bcast_S1024x1_S1024x4_0_1 v m c).trans hv
  have hcl := c.isLt
  unfold put
  rw [select_apply, e3]
  show Scalar.select (IntOp.cmpi .eq _ _) _ (Ideal.ofBits .f32 0x00000000#32) = _
  rw [e1, e2, Ideal.ofBits_zero_f32]
  by_cases h : c.val = k
  · rw [if_pos h, h]
    simp [IntOp.cmpi, Scalar.select]
  · rw [if_neg h]
    have hne : BitVec.ofNat 32 c.val ≠ BitVec.ofNat 32 k := fun e => h (by
      have := congrArg BitVec.toNat e
      simp only [BitVec.toNat_ofNat] at this
      omega)
    simp [IntOp.cmpi, Scalar.select, beq_eq_false_iff_ne.mpr hne]

/-- The column of each query's left sample among its four. -/
def upColumn (L : IVec S1024 32) : IVec S1024x1 32 :=
  column (subi L (muli (broadcastInDim S1024 ![] bcast_S_S1024 (constantI S_ 32 4#32)) (iotaInDim S1024 32 0)))

/-- The weights where a lane's values increase. -/
def upWeights (L : IVec S1024 32) (T : FVec Ideal S1024 .f32) : FVec Ideal S1024x4 .f32 :=
  addf (put (upColumn L) (subf (broadcastInDim S1024 ![] bcast_S_S1024 (constant S_ .f32 0x3F800000#32)) T))
    (put (addi (upColumn L) (broadcastInDim S1024x1 ![] bcast_S_S1024x1 (constantI S_ 32 1#32))) T)

theorem upWeights_apply (L : IVec S1024 32) (T : FVec Ideal S1024 .f32) (hL : ∀ m : Fin 1024, L (ix1 m) = BitVec.ofNat 32 (left m))
    (hT : ∀ m : Fin 1024, T (ix1 m) = ((share m : ℝ) : EReal)) (m : Fin 1024) (c : Fin 4) : upWeights L T (ix2 m c)
    = (((if c.val = left m - 4 * m then 1 - share m else 0) + (if c.val = left m - 4 * m + 1 then share m else 0) : ℝ) : EReal) := by
  have hm := m.isLt
  have hb := left_bounds m hm
  have hcol : upColumn L (ix2 m (0 : Fin 1)) = BitVec.ofNat 32 (left m - 4 * m) := by
    refine (column_apply _ m).trans ?_
    show L (ix1 m) - 4#32 * BitVec.ofNat 32 m.val = _
    rw [hL]
    apply BitVec.eq_of_toNat_eq
    simp
    omega
  have hcol1 : addi (upColumn L) (broadcastInDim S1024x1 ![] bcast_S_S1024x1 (constantI S_ 32 1#32)) (ix2 m (0 : Fin 1))
      = BitVec.ofNat 32 (left m - 4 * m + 1) := by
    show upColumn L (ix2 m (0 : Fin 1)) + 1#32 = _
    rw [hcol, BitVec.ofNat_add]
  have h1 := put_apply (upColumn L) (subf (broadcastInDim S1024 ![] bcast_S_S1024 (constant S_ .f32 0x3F800000#32)) T) m c _ (by omega)
    (1 - share m) hcol (by
      show Ideal.ofBits .f32 0x3F800000#32 - T (ix1 m) = _
      rw [ofBits_one, hT, ← EReal.coe_sub])
  have h2 := put_apply _ T m c _ (by omega) (share m) hcol1 (hT m)
  unfold upWeights
  rw [ValueIdx.addf_apply, h1, h2]
  exact (EReal.coe_add _ _).symm

/-- The column, among a query's four, of the left sample of the query counted from the end, in a lane read from its end. -/
def downColumn (L : IVec S1024 32) : IVec S1024x1 32 :=
  column (subi (subi (broadcastInDim S1024 ![] bcast_S_S1024 (constantI S_ 32 4095#32)) (Host.reverse [0] L))
    (muli (broadcastInDim S1024 ![] bcast_S_S1024 (constantI S_ 32 4#32)) (iotaInDim S1024 32 0)))

/-- The weights where a lane's values decrease. -/
def downWeights (L : IVec S1024 32) (T : FVec Ideal S1024 .f32) : FVec Ideal S1024x4 .f32 :=
  addf (put (downColumn L) (subf (broadcastInDim S1024 ![] bcast_S_S1024 (constant S_ .f32 0x3F800000#32)) (Host.reverse [0] T)))
    (put (subi (downColumn L) (broadcastInDim S1024x1 ![] bcast_S_S1024x1 (constantI S_ 32 1#32))) (Host.reverse [0] T))

/-- Reversing a vector of 1024 entries. -/
theorem reverse_ix1 {α : Type} (x : S1024.Idx → α) (m : Fin 1024) : Host.reverse [0] x (ix1 m) = x (ix1 m.rev) := by
  unfold Host.reverse
  refine congrArg x (funext fun a => ?_)
  match a with
  | ⟨0, _⟩ => rfl

theorem downWeights_apply (L : IVec S1024 32) (T : FVec Ideal S1024 .f32) (hL : ∀ m : Fin 1024, L (ix1 m) = BitVec.ofNat 32 (left m))
    (hT : ∀ m : Fin 1024, T (ix1 m) = ((share m : ℝ) : EReal)) (m : Fin 1024) (c : Fin 4) : downWeights L T (ix2 m c)
    = (((if c.val = 4095 - left m.rev - 4 * m then 1 - share m.rev else 0)
        + (if c.val = 4095 - left m.rev - 4 * m - 1 then share m.rev else 0) : ℝ) : EReal) := by
  have hm := m.isLt
  have hb := left_bounds m.rev m.rev.isLt
  have hr : m.rev.val = 1023 - m.val := by rw [Fin.val_rev]; omega
  have hb' := hb
  rw [hr] at hb'
  have hcol : downColumn L (ix2 m (0 : Fin 1)) = BitVec.ofNat 32 (4095 - left m.rev - 4 * m) := by
    refine (column_apply _ m).trans ?_
    show (4095#32 - Host.reverse [0] L (ix1 m)) - 4#32 * BitVec.ofNat 32 m.val = _
    rw [reverse_ix1, hL]
    apply BitVec.eq_of_toNat_eq
    simp
    omega
  have hcol1 : subi (downColumn L) (broadcastInDim S1024x1 ![] bcast_S_S1024x1 (constantI S_ 32 1#32)) (ix2 m (0 : Fin 1))
      = BitVec.ofNat 32 (4095 - left m.rev - 4 * m - 1) := by
    show downColumn L (ix2 m (0 : Fin 1)) - 1#32 = _
    rw [hcol]
    apply BitVec.eq_of_toNat_eq
    simp
    omega
  have h1 := put_apply (downColumn L) (subf (broadcastInDim S1024 ![] bcast_S_S1024 (constant S_ .f32 0x3F800000#32)) (Host.reverse [0] T))
    m c _ (by omega) (1 - share m.rev) hcol (by
      show Ideal.ofBits .f32 0x3F800000#32 - Host.reverse [0] T (ix1 m) = _
      rw [reverse_ix1, ofBits_one, hT, ← EReal.coe_sub])
  have h2 := put_apply _ (Host.reverse [0] T) m c _ (by omega) (share m.rev) hcol1 (by rw [reverse_ix1, hT])
  unfold downWeights
  rw [ValueIdx.addf_apply, h1, h2]
  exact (EReal.coe_add _ _).symm

end Cert.Embedding

end
-- ==== Proof.Grid.lean ====
/-
  The interpolation's two grids, the left sample of every query and its share of the spacing, as the programs compute them
  before the sort is read: every entry is the real number of the specification.
-/
module

public import proofs.«01_k».proof.Proof.Gen.KernelIdeal
public import proofs.«01_k».proof.Proof.Weights
public import Idealize.ShloMosaic.Lib.Routing.OpsSearch
public import Idealize.ShloMosaic.Lib.ValueIdx
public import Idealize.ShloMosaic.Lib.IdealHost

@[expose] public section

noncomputable section

namespace Cert.Embedding

open Cert.KernelIdeal Cert.KernelIdeal.Facts₀ Idealize.ShloMosaic Idealize.ShloMosaic.ValueIdx Idealize.ShloMosaic.Routing

variable [Cert.KernelIdeal.Facts₀]

/-! ## The grids -/

/-- The samples' places: the interior of 4098 evenly spaced points from 0 to 1. -/
def samples : FVec Ideal S4096 .f32 :=
  extractStridedSlice S4096 ![1] (concatenate S4098 0
    [⟨S4097, addf (mulf (broadcastInDim S4097 ![0] bcast_S1_S4097_0 (shapeCast S1 (id (constant S_ .f32 0x00000000#32)) shapeCasts_S_S1))
        (subf (broadcastInDim S4097 ![] bcast_S_S4097 (constant S_ .f32 0x3F800000#32))
          (Host.divf (sitofp .f32 (iotaInDim S4097 32 0)) (broadcastInDim S4097 ![] bcast_S_S4097 (constant S_ .f32 0x45800800#32)))))
      (mulf (broadcastInDim S4097 ![0] bcast_S1_S4097_0 (shapeCast S1 (id (constant S_ .f32 0x3F800000#32)) shapeCasts_S_S1))
        (Host.divf (sitofp .f32 (iotaInDim S4097 32 0)) (broadcastInDim S4097 ![] bcast_S_S4097 (constant S_ .f32 0x45800800#32))))⟩,
     ⟨S1, broadcastInDim S1 ![] bcast_S_S1 (id (constant S_ .f32 0x3F800000#32))⟩] concatenates_S4097_S1_S4098_d0) slices_S4098_S4096_1

/-- The queries' places: the interior of 1026 evenly spaced points from 0 to 1. -/
def queries : FVec Ideal S1024 .f32 :=
  extractStridedSlice S1024 ![1] (concatenate S1026 0
    [⟨S1025, addf (mulf (broadcastInDim S1025 ![0] bcast_S1_S1025_0 (shapeCast S1 (id (constant S_ .f32 0x00000000#32)) shapeCasts_S_S1))
        (subf (broadcastInDim S1025 ![] bcast_S_S1025 (constant S_ .f32 0x3F800000#32))
          (Host.divf (sitofp .f32 (iotaInDim S1025 32 0)) (broadcastInDim S1025 ![] bcast_S_S1025 (constant S_ .f32 0x44802000#32)))))
      (mulf (broadcastInDim S1025 ![0] bcast_S1_S1025_0 (shapeCast S1 (id (constant S_ .f32 0x3F800000#32)) shapeCasts_S_S1))
        (Host.divf (sitofp .f32 (iotaInDim S1025 32 0)) (broadcastInDim S1025 ![] bcast_S_S1025 (constant S_ .f32 0x44802000#32))))⟩,
     ⟨S1, broadcastInDim S1 ![] bcast_S_S1 (id (constant S_ .f32 0x3F800000#32))⟩] concatenates_S1025_S1_S1026_d0) slices_S1026_S1024_1

/-- Four literals as real numbers. -/
theorem ofBits_4097 : Ideal.ofBits .f32 0x45800800#32 = ((4097 : ℝ) : EReal) := by
  simp [Ideal.ofBits, Ideal.ieee]
  rw [← EReal.coe_mul]
  norm_num
theorem ofBits_1025 : Ideal.ofBits .f32 0x44802000#32 = ((1025 : ℝ) : EReal) := by
  simp [Ideal.ofBits, Ideal.ieee]
  rw [← EReal.coe_mul]
  norm_num
theorem ofBits_slack : Ideal.ofBits .f32 0x34000000#32 = ((slack : ℝ) : EReal) := by
  unfold slack
  simp [Ideal.ofBits, Ideal.ieee]
  rw [← EReal.coe_mul]
  norm_num
/-- A quotient of reals is the quotient of the reals. -/
theorem div_real (x : ℝ) {y : ℝ} (h : y ≠ 0) : Ideal.div (x : EReal) (y : EReal) = ((x / y : ℝ) : EReal) := by
  rw [Ideal.div_coe h, ← EReal.coe_mul, mul_one_div]

/-- One point of an evenly spaced grid from 0 to 1, as it is computed: 0 * (1 - n/k) + 1 * (n/k). -/
theorem grid_point (n : ℕ) (hn : n < 2 ^ 31) (k : ℝ) (hk : k ≠ 0) (b : BitVec 32) (hb : Ideal.ofBits .f32 b = (k : EReal)) :
    (Ideal.ofBits .f32 0x00000000#32 * (Ideal.ofBits .f32 0x3F800000#32 - Ideal.div ((((BitVec.ofNat 32 n).toInt : ℝ) : EReal)) (Ideal.ofBits .f32 b))
      + Ideal.ofBits .f32 0x3F800000#32 * Ideal.div ((((BitVec.ofNat 32 n).toInt : ℝ) : EReal)) (Ideal.ofBits .f32 b) : EReal)
      = (((n : ℝ) / k : ℝ) : EReal) := by
  rw [hb, WordCmp.toInt_ofNat_of_lt (w := 32) hn, div_real _ hk, ofBits_one, Ideal.ofBits_zero_f32, zero_mul, zero_add, ← EReal.coe_mul, one_mul]
  norm_num

theorem samples_apply (i : Fin 4096) : samples (ix1 i) = ((sampleAt i : ℝ) : EReal) := by
  have hi := i.isLt
  unfold samples
  refine (slice1 1 _ _ i (by omega)).trans ?_
  refine (concatenate_pair_apply_left (t := S4098) (s₁ := S4097) (s₂ := S1) 0 _ _ concatenates_S4097_S1_S4098_d0 _ rfl
    (ix1 (⟨1 + i.val, by omega⟩ : Fin 4097)) (fun b => by match b with | ⟨0, _⟩ => rfl)).trans ?_
  refine (grid_point (1 + i.val) (by omega) 4097 (by norm_num) 0x45800800#32 ofBits_4097).trans ?_
  rw [Nat.add_comm]
  rfl

theorem queries_apply (m : Fin 1024) : queries (ix1 m) = ((queryAt m : ℝ) : EReal) := by
  have hm := m.isLt
  unfold queries
  refine (slice1 1 _ _ m (by omega)).trans ?_
  refine (concatenate_pair_apply_left (t := S1026) (s₁ := S1025) (s₂ := S1) 0 _ _ concatenates_S1025_S1_S1026_d0 _ rfl
    (ix1 (⟨1 + m.val, by omega⟩ : Fin 1025)) (fun b => by match b with | ⟨0, _⟩ => rfl)).trans ?_
  refine (grid_point (1 + m.val) (by omega) 1025 (by norm_num) 0x44802000#32 ofBits_1025).trans ?_
  rw [Nat.add_comm]
  rfl

/-! ## The left sample of every query -/

/-- How many samples lie before each query. -/
def countWords : IVec S1024 32 :=
  Host.reduce IntOp.addi (extui 32 (cmpf .olt
    (broadcastInDim S1024x4096 ![0, 1] bcast_S1x4096_S1024x4096_0_1 (broadcastInDim S1x4096 ![1] bcast_S4096_S1x4096_1 samples))
    (broadcastInDim S1024x4096 ![0, 1] bcast_S1024x1_S1024x4096_0_1 (broadcastInDim S1024x1 ![0] bcast_S1024_S1024x1_0 queries)))
    natLt_1_32) (constantI S_ 32 0#32) reducesTo_S1024x4096_S1024_d1 h_S_

theorem countWords_apply (m : Fin 1024) : countWords (ix1 m) = BitVec.ofNat 32 (left m + 1) := by
  classical
  have hm := m.isLt
  have hc := reduce_count (n := 1024) (m := 4096) (by norm_num) (cmpf .olt
      (broadcastInDim S1024x4096 ![0, 1] bcast_S1x4096_S1024x4096_0_1 (broadcastInDim S1x4096 ![1] bcast_S4096_S1x4096_1 samples))
      (broadcastInDim S1024x4096 ![0, 1] bcast_S1024x1_S1024x4096_0_1 (broadcastInDim S1024x1 ![0] bcast_S1024_S1024x1_0 queries)))
      natLt_1_32 reducesTo_S1024x4096_S1024_d1 h_S_ m (fun i => sampleAt i < queryAt m) (fun q => by
        rw [cmpf_apply, bcCols, bcRows, samples_apply, queries_apply]
        simp only [FloatOps.cmpf, Ideal.cmp, EReal.coe_lt_coe_iff]
        by_cases h : sampleAt q.val < queryAt m.val <;> simp [h])
  rw [count_sampleAt m hm] at hc
  exact hc

/-- One less than each word, kept between 0 and 4094. -/
def clipped (n : IVec S1024 32) : IVec S1024 32 :=
  minsi (broadcastInDim S1024 ![] bcast_S_S1024 (id (constantI S_ 32 4094#32)))
    (maxsi (broadcastInDim S1024 ![] bcast_S_S1024 (id (constantI S_ 32 0#32)))
      (subi n (broadcastInDim S1024 ![] bcast_S_S1024 (constantI S_ 32 1#32))))

theorem clipped_apply (n : IVec S1024 32) (m : Fin 1024) (k : ℕ) (hk : k ≤ 4094) (h : n (ix1 m) = BitVec.ofNat 32 (k + 1)) :
    clipped n (ix1 m) = BitVec.ofNat 32 k := by
  have e : clipped n (ix1 m) = IntOp.minsi (BitVec.ofNat 32 4094) (IntOp.maxsi (BitVec.ofNat 32 0) (IntOp.subi (n (ix1 m)) 1#32)) := rfl
  rw [e, h, show IntOp.subi (BitVec.ofNat 32 (k + 1)) 1#32 = BitVec.ofNat 32 k from ?_, clip_word (by omega) (by omega) (by omega)]
  · congr 1; omega
  · apply BitVec.eq_of_toNat_eq
    simp [IntOp.subi]
    omega

/-- The left sample of each query. -/
def leftWords : IVec S1024 32 := clipped countWords

theorem leftWords_apply (m : Fin 1024) : leftWords (ix1 m) = BitVec.ofNat 32 (left m) := by
  have hb := left_bounds m m.isLt
  exact clipped_apply countWords m (left m) (by omega) (countWords_apply m)

/-- The samples' places at a vector of positions. -/
def taken (i : IVec S1024 32) : FVec Ideal S1024 .f32 := Host.gather gather_S4096_S1024x1_S1024_n_0_n_n_0_1_1 samples (column i)

theorem taken_apply (i : IVec S1024 32) (m : Fin 1024) (k : ℕ) (hk : k < 4096) (h : i (ix1 m) = BitVec.ofNat 32 k) :
    taken i (ix1 m) = ((sampleAt k : ℝ) : EReal) := by
  refine (take_ap gather_S4096_S1024x1_S1024_n_0_n_n_0_1_1 rfl rfl rfl rfl samples (column i) m hk (by omega) ?_).trans (samples_apply ⟨k, hk⟩)
  exact (column_apply i m).trans h

/-- The words one more than the given ones. -/
def following (n : IVec S1024 32) : IVec S1024 32 := addi n (broadcastInDim S1024 ![] bcast_S_S1024 (constantI S_ 32 1#32))

theorem following_apply (n : IVec S1024 32) (m : Fin 1024) (k : ℕ) (h : n (ix1 m) = BitVec.ofNat 32 k) :
    following n (ix1 m) = BitVec.ofNat 32 (k + 1) := by
  show n (ix1 m) + 1#32 = _
  rw [h, BitVec.ofNat_add]

/-- How far each place lies past the one on its left, as a share of the spacing. -/
def shareOf (q x y : FVec Ideal S1024 .f32) : FVec Ideal S1024 .f32 :=
  Host.divf (subf q x) (addf (broadcastInDim S1024 ![] bcast_S_S1024 (constant S_ .f32 0x34000000#32)) (subf y x))

theorem shareOf_apply (q x y : FVec Ideal S1024 .f32) (i : S1024.Idx) (a b c : ℝ) (hq : q i = (a : EReal)) (hx : x i = (b : EReal))
    (hy : y i = (c : EReal)) (h : slack + (c - b) ≠ 0) : shareOf q x y i = (((a - b) / (slack + (c - b)) : ℝ) : EReal) := by
  show Ideal.div (q i - x i) (Ideal.ofBits .f32 0x34000000#32 + (y i - x i)) = _
  rw [hq, hx, hy, ofBits_slack, ← EReal.coe_sub, ← EReal.coe_sub, ← EReal.coe_add, div_real _ h]

/-- How far each query lies past its left sample, as a share of the spacing. -/
def shares : FVec Ideal S1024 .f32 := shareOf queries (taken leftWords) (taken (following leftWords))

theorem shares_apply (m : Fin 1024) : shares (ix1 m) = ((share m : ℝ) : EReal) := by
  have hb := left_bounds m m.isLt
  exact shareOf_apply _ _ _ _ _ _ _ (queries_apply m) (taken_apply leftWords m (left m) (by omega) (leftWords_apply m))
    (taken_apply (following leftWords) m (left m + 1) (by omega) (following_apply leftWords m (left m) (leftWords_apply m)))
    (gap_ne_zero (left m))

end Cert.Embedding

end
-- ==== Proof.Tables.lean ====
/-
  The two tables of weights as the kernel's region finds them.
-/
module

public import proofs.«01_k».proof.Proof.Grid
public import proofs.«01_k».proof.Proof.Gen.KernelIdeal.Value

@[expose] public section

noncomputable section

namespace Cert.Embedding

open Cert.KernelIdeal Cert.KernelIdeal.Gen Idealize.ShloMosaic Idealize.ShloMosaic.TcCoe Idealize.ShloMosaic.StableHlo

variable (m : (ℓ : Loc nD τ sig) → Buf (Elt Ideal) ℓ)

/-- Rewriting the operands of a concatenation of two. -/
theorem concatenate_pair_congr {α : Type} {s s' t : Shape} {a : Fin t.rank} {x0 y0 : s.Idx → α} {x1 y1 : s'.Idx → α}
    {h : Shape.Concatenates [s, s'] t a} (h0 : x0 = y0) (h1 : x1 = y1) :
    concatenate t a [⟨s, x0⟩, ⟨s', x1⟩] h = concatenate t a [⟨s, y0⟩, ⟨s', y1⟩] h := by subst h0 h1; rfl

attribute [local congr] concatenate_pair_congr

set_option maxRecDepth 16384 in
set_option maxHeartbeats 4000000 in
/-- The region finds the increasing weights in the fourth window's array. -/
theorem V_up (c : Dev nD) : V m c main_call0_v44 = upWeights leftWords shares := by
  show StableHlo.after hostOps0 _ (Proc.devRef .tc main_call0_v44) = _
  simp only [hostOps0, TRef.binary, TRef.nullary, TRef.reshape, TRef.ternary, TRef.unary, TRef.toBuf, TRef.ofBuf, cast_eq]
  after_results_simp
  rfl

set_option maxRecDepth 16384 in
set_option maxHeartbeats 4000000 in
/-- The region finds the decreasing weights in the fifth window's array. -/
theorem V_down (c : Dev nD) : V m c main_call0_v67 = downWeights leftWords shares := by
  show StableHlo.after hostOps0 _ (Proc.devRef .tc main_call0_v67) = _
  simp only [hostOps0, TRef.binary, TRef.nullary, TRef.reshape, TRef.ternary, TRef.unary, TRef.toBuf, TRef.ofBuf, cast_eq]
  after_results_simp
  rfl

end Cert.Embedding

end
-- ==== Proof.Fold.lean ====
/-
  The kernel's body as a chain of sorting passes. The body sorts the 4096 rows of every lane by 42 passes over the
  whole `[4096, 128]` block. A pass reshapes the block, takes two or four slices, exchanges them in pairs by minimum, maximum
  and select, and puts them back. `pass1` is the pass over one distance, `pass2` the pass over two distances.
-/
module

public import proofs.«01_k».proof.Proof.Gen.KernelIdeal.Value

@[expose] public section

noncomputable section

namespace Cert.KernelIdeal.Sorting

open Cert.KernelIdeal Cert.KernelIdeal.Gen Idealize.ShloMosaic Idealize.ShloMosaic.TcCoe

variable {F : FTy → Type} [FloatOps F]

/-- A block of rows by lanes. -/
abbrev Rows : Shape := ⟨2, ![4096, 128]⟩

/-- The lesser of two entries where the direction bit is set, else the greater. -/
def lower {s : Shape} (up : IVec s 1) (u v : FVec F s .f32) : FVec F s .f32 := select up (minimumf u v) (maximumf u v)

/-- The greater of two entries where the direction bit is set, else the lesser. -/
def upper {s : Shape} (up : IVec s 1) (u v : FVec F s .f32) : FVec F s .f32 := select up (maximumf u v) (minimumf u v)

/-- One of the four slices `pass2` works on. -/
def quarter (G d : Nat) (off : Fin 5 → Nat) (S : FVec F Rows .f32)
    (h5 : Rows.ShapeCasts ⟨5, ![G, 2, 2, d, 128]⟩)
    (hs : (⟨5, ![G, 2, 2, d, 128]⟩ : Shape).Slices off ⟨5, ![G, 1, 1, d, 128]⟩)
    (h3 : (⟨5, ![G, 1, 1, d, 128]⟩ : Shape).ShapeCasts ⟨3, ![G, d, 128]⟩) : FVec F ⟨3, ![G, d, 128]⟩ .f32 :=
  shapeCast ⟨3, ![G, d, 128]⟩ (extractStridedSlice ⟨5, ![G, 1, 1, d, 128]⟩ off (shapeCast ⟨5, ![G, 2, 2, d, 128]⟩ S h5) hs) h3

/-- Four slices put back, one after another, into a block. -/
def join4 (G d : Nat) (y0 y1 y2 y3 : FVec F ⟨3, ![G, d, 128]⟩ .f32)
    (h4 : (⟨3, ![G, d, 128]⟩ : Shape).ShapeCasts ⟨4, ![G, 1, d, 128]⟩)
    (hc : Shape.Concatenates [⟨4, ![G, 1, d, 128]⟩, ⟨4, ![G, 1, d, 128]⟩, ⟨4, ![G, 1, d, 128]⟩, ⟨4, ![G, 1, d, 128]⟩]
      (⟨4, ![G, 4, d, 128]⟩ : Shape) 1)
    (hb : (⟨4, ![G, 4, d, 128]⟩ : Shape).ShapeCasts Rows) : FVec F Rows .f32 :=
  shapeCast Rows (concatenate ⟨4, ![G, 4, d, 128]⟩ 1
    [⟨⟨4, ![G, 1, d, 128]⟩, shapeCast ⟨4, ![G, 1, d, 128]⟩ y0 h4⟩, ⟨⟨4, ![G, 1, d, 128]⟩, shapeCast ⟨4, ![G, 1, d, 128]⟩ y1 h4⟩,
     ⟨⟨4, ![G, 1, d, 128]⟩, shapeCast ⟨4, ![G, 1, d, 128]⟩ y2 h4⟩, ⟨⟨4, ![G, 1, d, 128]⟩, shapeCast ⟨4, ![G, 1, d, 128]⟩ y3 h4⟩] hc) hb

/-- The pass over two distances: each row is exchanged at distance `2 d`, then at distance `d`. -/
def pass2 (G d : Nat) (up : IVec ⟨3, ![G, d, 128]⟩ 1) (S : FVec F Rows .f32)
    (h5 : Rows.ShapeCasts ⟨5, ![G, 2, 2, d, 128]⟩)
    (hs0 : (⟨5, ![G, 2, 2, d, 128]⟩ : Shape).Slices ![0, 0, 0, 0, 0] ⟨5, ![G, 1, 1, d, 128]⟩)
    (hs1 : (⟨5, ![G, 2, 2, d, 128]⟩ : Shape).Slices ![0, 0, 1, 0, 0] ⟨5, ![G, 1, 1, d, 128]⟩)
    (hs2 : (⟨5, ![G, 2, 2, d, 128]⟩ : Shape).Slices ![0, 1, 0, 0, 0] ⟨5, ![G, 1, 1, d, 128]⟩)
    (hs3 : (⟨5, ![G, 2, 2, d, 128]⟩ : Shape).Slices ![0, 1, 1, 0, 0] ⟨5, ![G, 1, 1, d, 128]⟩)
    (h3 : (⟨5, ![G, 1, 1, d, 128]⟩ : Shape).ShapeCasts ⟨3, ![G, d, 128]⟩)
    (h4 : (⟨3, ![G, d, 128]⟩ : Shape).ShapeCasts ⟨4, ![G, 1, d, 128]⟩)
    (hc : Shape.Concatenates [⟨4, ![G, 1, d, 128]⟩, ⟨4, ![G, 1, d, 128]⟩, ⟨4, ![G, 1, d, 128]⟩, ⟨4, ![G, 1, d, 128]⟩]
      (⟨4, ![G, 4, d, 128]⟩ : Shape) 1)
    (hb : (⟨4, ![G, 4, d, 128]⟩ : Shape).ShapeCasts Rows) : FVec F Rows .f32 :=
  join4 G d
    (lower up (lower up (quarter G d ![0, 0, 0, 0, 0] S h5 hs0 h3) (quarter G d ![0, 1, 0, 0, 0] S h5 hs2 h3))
      (lower up (quarter G d ![0, 0, 1, 0, 0] S h5 hs1 h3) (quarter G d ![0, 1, 1, 0, 0] S h5 hs3 h3)))
    (upper up (lower up (quarter G d ![0, 0, 0, 0, 0] S h5 hs0 h3) (quarter G d ![0, 1, 0, 0, 0] S h5 hs2 h3))
      (lower up (quarter G d ![0, 0, 1, 0, 0] S h5 hs1 h3) (quarter G d ![0, 1, 1, 0, 0] S h5 hs3 h3)))
    (lower up (upper up (quarter G d ![0, 0, 0, 0, 0] S h5 hs0 h3) (quarter G d ![0, 1, 0, 0, 0] S h5 hs2 h3))
      (upper up (quarter G d ![0, 0, 1, 0, 0] S h5 hs1 h3) (quarter G d ![0, 1, 1, 0, 0] S h5 hs3 h3)))
    (upper up (upper up (quarter G d ![0, 0, 0, 0, 0] S h5 hs0 h3) (quarter G d ![0, 1, 0, 0, 0] S h5 hs2 h3))
      (upper up (quarter G d ![0, 0, 1, 0, 0] S h5 hs1 h3) (quarter G d ![0, 1, 1, 0, 0] S h5 hs3 h3)))
    h4 hc hb

/-- One of the two slices `pass1` works on. -/
def half (G d : Nat) (off : Fin 4 → Nat) (S : FVec F Rows .f32)
    (h4 : Rows.ShapeCasts ⟨4, ![G, 2, d, 128]⟩)
    (hs : (⟨4, ![G, 2, d, 128]⟩ : Shape).Slices off ⟨4, ![G, 1, d, 128]⟩)
    (h3 : (⟨4, ![G, 1, d, 128]⟩ : Shape).ShapeCasts ⟨3, ![G, d, 128]⟩) : FVec F ⟨3, ![G, d, 128]⟩ .f32 :=
  shapeCast ⟨3, ![G, d, 128]⟩ (extractStridedSlice ⟨4, ![G, 1, d, 128]⟩ off (shapeCast ⟨4, ![G, 2, d, 128]⟩ S h4) hs) h3

/-- Two slices put back, one after the other, into a block. -/
def join2 (G d : Nat) (y0 y1 : FVec F ⟨3, ![G, d, 128]⟩ .f32)
    (h4 : (⟨3, ![G, d, 128]⟩ : Shape).ShapeCasts ⟨4, ![G, 1, d, 128]⟩)
    (hc : Shape.Concatenates [⟨4, ![G, 1, d, 128]⟩, ⟨4, ![G, 1, d, 128]⟩] (⟨4, ![G, 2, d, 128]⟩ : Shape) 1)
    (hb : (⟨4, ![G, 2, d, 128]⟩ : Shape).ShapeCasts Rows) : FVec F Rows .f32 :=
  shapeCast Rows (concatenate ⟨4, ![G, 2, d, 128]⟩ 1
    [⟨⟨4, ![G, 1, d, 128]⟩, shapeCast ⟨4, ![G, 1, d, 128]⟩ y0 h4⟩, ⟨⟨4, ![G, 1, d, 128]⟩, shapeCast ⟨4, ![G, 1, d, 128]⟩ y1 h4⟩] hc) hb

/-- The pass over one distance: each row is exchanged at distance `d`. -/
def pass1 (G d : Nat) (up : IVec ⟨3, ![G, d, 128]⟩ 1) (S : FVec F Rows .f32)
    (h4 : Rows.ShapeCasts ⟨4, ![G, 2, d, 128]⟩)
    (hs0 : (⟨4, ![G, 2, d, 128]⟩ : Shape).Slices ![0, 0, 0, 0] ⟨4, ![G, 1, d, 128]⟩)
    (hs1 : (⟨4, ![G, 2, d, 128]⟩ : Shape).Slices ![0, 1, 0, 0] ⟨4, ![G, 1, d, 128]⟩)
    (h3 : (⟨4, ![G, 1, d, 128]⟩ : Shape).ShapeCasts ⟨3, ![G, d, 128]⟩)
    (hu : (⟨3, ![G, d, 128]⟩ : Shape).ShapeCasts ⟨4, ![G, 1, d, 128]⟩)
    (hc : Shape.Concatenates [⟨4, ![G, 1, d, 128]⟩, ⟨4, ![G, 1, d, 128]⟩] (⟨4, ![G, 2, d, 128]⟩ : Shape) 1)
    (hb : (⟨4, ![G, 2, d, 128]⟩ : Shape).ShapeCasts Rows) : FVec F Rows .f32 :=
  join2 G d (lower up (half G d ![0, 0, 0, 0] S h4 hs0 h3) (half G d ![0, 1, 0, 0] S h4 hs1 h3))
    (upper up (half G d ![0, 0, 0, 0] S h4 hs0 h3) (half G d ![0, 1, 0, 0] S h4 hs1 h3)) hu hc hb

/-- The direction bits of a pass before the last level: bit `k` of the number counted along `dims` is clear. The passes count
    along the first axis, so that it is the block number. -/
def dirBits (G d : Nat) (k : BitVec 32) (dims : List (Fin (⟨3, ![G, d, 128]⟩ : Shape).rank))
    (h : (⟨3, ![G, d, 128]⟩ : Shape).Iotas .tc 32 dims) : IVec ⟨3, ![G, d, 128]⟩ 1 :=
  cmpi .eq (andi (shrsi (iota .tc ⟨3, ![G, d, 128]⟩ 32 dims h) (broadcast ⟨3, ![G, d, 128]⟩ k)) (broadcast ⟨3, ![G, d, 128]⟩ 1#32))
    (broadcast ⟨3, ![G, d, 128]⟩ 0#32)

/-- The direction bits of a pass of the last level: one bit for every lane. -/
def laneBits (G d : Nat) (b : IVec S1x128 1) (h : (⟨3, ![1, 1, 128]⟩ : Shape).Broadcasts ⟨3, ![G, d, 128]⟩) : IVec ⟨3, ![G, d, 128]⟩ 1 :=
  broadcastTo ⟨3, ![G, d, 128]⟩ (shapeCast S1x1x128 (shapeCast S1x1x128 b shapeCasts_S1x128_S1x1x128) shapeCasts_S1x1x128_S1x1x128) h

/-- The projections of one batch entry's points onto the directions. -/
def points (x0 : Vec F S1x4096x128 .f32) (x1 : Vec F S128x128 .f32) : FVec F Rows .f32 :=
  matmul dot_S4096x128_S128x128_S4096x128_1_1_0_0_n_n (some .fp32) (shapeCast S4096x128 x0 shapeCasts_S1x4096x128_S4096x128)
    (k0_pay2 x1) (constant S4096x128 .f32 0x00000000#32)

/-- One summand of the interpolation: a column of weights times every fourth row of the sorted block. -/
def summand (w : FVec F S1024x1 .f32) (off : Fin 3 → Nat) (T : FVec F Rows .f32) (hs : S1024x4x128.Slices off S1024x1x128) :
    FVec F S1024x128 .f32 :=
  mulf (broadcastTo S1024x128 (shapeCast S1024x1 w shapeCasts_S1024x1_S1024x1) broadcasts_S1024x1_S1024x128)
    (shapeCast S1024x128 (extractStridedSlice S1024x1x128 off (shapeCast S1024x4x128 T shapeCasts_S4096x128_S1024x4x128) hs)
      shapeCasts_S1024x1x128_S1024x128)

/-- The interpolation at the 1024 new positions: four weights against four consecutive rows. -/
def mix (x : Vec F S1024x4 .f32) (T : FVec F Rows .f32) : FVec F S1024x128 .f32 :=
  addf (addf (addf (addf (broadcast S1024x128 (FloatOps.ofBits .f32 0x00000000#32))
    (summand (View.ld x (Rect.unit ![0, 0] S1024x1.size inb_S1024x4_S1024x1_0_0)) ![0, 0, 0] T slices_S1024x4x128_o0_0_0_S1024x1x128))
    (summand (View.ld x (Rect.unit ![0, 1] S1024x1.size inb_S1024x4_S1024x1_0_1)) ![0, 1, 0] T slices_S1024x4x128_o0_1_0_S1024x1x128))
    (summand (View.ld x (Rect.unit ![0, 2] S1024x1.size inb_S1024x4_S1024x1_0_2)) ![0, 2, 0] T slices_S1024x4x128_o0_2_0_S1024x1x128))
    (summand (View.ld x (Rect.unit ![0, 3] S1024x1.size inb_S1024x4_S1024x1_0_3)) ![0, 3, 0] T slices_S1024x4x128_o0_3_0_S1024x1x128)

/-- The reference column's values, rounded as the kernel compares them. -/
def rounded (r : Vec F S1024x1 .f32) : FVec F S1024x1 .f32 := extf .f32 (truncf .bf16 r bitsLt_bf16_f32) bitsLt_bf16_f32

/-- Whether a reference value equals the next one. -/
def tieNext (r : FVec F S1024x1 .f32) : IVec S1024x1 1 :=
  cmpf .oeq r (concatenate S1024x1 0
    [⟨S1023x1, extractStridedSlice S1023x1 ![1, 0] r slices_S1024x1_o1_0_S1023x1⟩,
     ⟨S1x1, addf (extractStridedSlice S1x1 ![1023, 0] r slices_S1024x1_o1023_0_S1x1) (broadcast S1x1 (FloatOps.ofBits .f32 0x40000000#32))⟩]
    concatenates_S1023x1_S1x1_S1024x1_d0)

/-- Whether a reference value equals the one before it. -/
def tiePrev (r : FVec F S1024x1 .f32) : IVec S1024x1 1 :=
  cmpf .oeq r (concatenate S1024x1 0
    [⟨S1x1, subf (extractStridedSlice S1x1 ![0, 0] r slices_S1024x1_o0_0_S1x1) (broadcast S1x1 (FloatOps.ofBits .f32 0x40000000#32))⟩,
     ⟨S1023x1, extractStridedSlice S1023x1 ![0, 0] r slices_S1024x1_o0_0_S1023x1⟩]
    concatenates_S1x1_S1023x1_S1024x1_d0)

/-- The exchange of neighbouring rows where two reference values are equal. -/
def untie (tn tp : IVec S1024x1 1) (Y : FVec F S1024x128 .f32) : FVec F S1024x128 .f32 :=
  select (broadcastTo S1024x128 (shapeCast S1024x1 tn shapeCasts_S1024x1_S1024x1) broadcasts_S1024x1_S1024x128)
    (concatenate S1024x128 0
      [⟨S1023x128, extractStridedSlice S1023x128 ![1, 0] Y slices_S1024x128_o1_0_S1023x128⟩,
       ⟨S1x128, extractStridedSlice S1x128 ![1023, 0] Y slices_S1024x128_o1023_0_S1x128⟩]
      concatenates_S1023x128_S1x128_S1024x128_d0)
    (select (broadcastTo S1024x128 (shapeCast S1024x1 tp shapeCasts_S1024x1_S1024x1) broadcasts_S1024x1_S1024x128)
      (concatenate S1024x128 0
        [⟨S1x128, extractStridedSlice S1x128 ![0, 0] Y slices_S1024x128_o0_0_S1x128⟩,
         ⟨S1023x128, extractStridedSlice S1023x128 ![0, 0] Y slices_S1024x128_o0_0_S1023x128⟩]
        concatenates_S1x128_S1023x128_S1024x128_d0) Y)

/-- What the body stores, as a function of the sorted block `T`. -/
def body (x1 : Vec F S128x128 .f32) (x2 : Vec F S1024x128 .f32) (x3 x4 : Vec F S1024x4 .f32) (T : FVec F Rows .f32) :
    FVec F S1x128x1024 .f32 :=
  shapeCast S1x128x1024 (transpose S128x1024 [1, 0] (subf (k0_pay3 x1 x2)
    (select (broadcastTo S1024x128 (shapeCast S1x128 (k0_pay4 x1 x2) shapeCasts_S1x128_S1x128) broadcasts_S1x128_S1024x128)
      (mix x3 T)
      (untie (tieNext (rounded (View.ld x2 (Rect.unit ![0, 0] S1024x1.size inb_S1024x128_S1024x1_0_0))))
        (tiePrev (rounded (View.ld x2 (Rect.unit ![0, 0] S1024x1.size inb_S1024x128_S1024x1_0_0)))) (mix x4 T))))
    transposes_S1024x128_p1_0_S128x1024) shapeCasts_S128x1024_S1x128x1024

end Cert.KernelIdeal.Sorting

end
-- ==== Proof.Body.lean ====
/-
  What the kernel's body stores for one batch entry, at real inputs: the embedding's entries.
-/
module

public import proofs.«01_k».proof.Proof.Fold
public import proofs.«01_k».proof.Proof.Spec
public import Idealize.ShloMosaic.Lib.MatmulPlain
public import Idealize.ShloMosaic.Lib.ValueIdx
public import Idealize.ShloMosaic.Lib.IdealHost
public import Idealize.ShloMosaic.Lib.Pipeline.ValueKit.Tiles

@[expose] public section

noncomputable section

namespace Cert.Embedding

open Cert.KernelIdeal Cert.KernelIdeal.Gen Cert.KernelIdeal.Sorting Idealize.ShloMosaic Idealize.ShloMosaic.ValueIdx Idealize.ShloMosaic.TcCoe

/-! ## Sums of reals -/

/-- A finite sum of reals, summed as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A dot product of reals, taken in the extended reals. -/
theorem coe_dot {ι : Type} [Fintype ι] (x y : ι → EReal) (a b : ι → ℝ) (hx : ∀ k, x k = ((a k : ℝ) : EReal)) (hy : ∀ k, y k = ((b k : ℝ) : EReal)) :
    ∑ k, x k * y k = ((∑ k, a k * b k : ℝ) : EReal) := by
  rw [← coe_sum]
  refine Finset.sum_congr rfl fun k _ => ?_
  rw [hx, hy, EReal.coe_mul]

/-! ## Directions and projections -/

/-- The array `A` holds the directions `θ`: row `l` of it is real, of positive length, and `θ l`; or it has an infinite
    entry, and `θ l` is zero. -/
def Directions (A : FVec Ideal S128x128 .f32) (θ : Fin 128 → Fin 128 → ℝ) : Prop :=
  ∀ l, ((∀ k, A (ix2 l k) = ((θ l k : ℝ) : EReal)) ∧ 0 < ∑ k, θ l k * θ l k)
    ∨ ((∃ k, A (ix2 l k) = ⊤ ∨ A (ix2 l k) = ⊥) ∧ ∀ k, θ l k = 0)

/-- The square of an extended real is not negative. -/
theorem square_nonneg (x : EReal) : 0 ≤ x * x := by
  induction x using EReal.rec with
  | bot => simp
  | top => simp
  | coe x => rw [← EReal.coe_mul]; exact EReal.coe_nonneg.2 (mul_self_nonneg x)

/-- A sum of squares with an infinite entry is infinite. -/
theorem sum_squares_top (a : Fin 128 → EReal) (k : Fin 128) (h : a k = ⊤ ∨ a k = ⊥) : ∑ j, a j * a j = ⊤ := by
  refine top_le_iff.1 ?_
  have hk : a k * a k = ⊤ := by rcases h with h | h <;> simp [h]
  rw [← hk]
  exact Finset.single_le_sum (f := fun j => a j * a j) (fun j _ => square_nonneg (a j)) (Finset.mem_univ k)

/-- A zero direction stays zero at unit length. -/
theorem unit_zero (θ : Fin 128 → Fin 128 → ℝ) (l k : Fin 128) (h : ∀ k, θ l k = 0) : unit θ l k = 0 := by
  unfold unit
  rw [h k, zero_div]

section
variable (x1 : Vec Ideal S128x128 .f32) (x2 : Vec Ideal S1024x128 .f32) (θ : Fin 128 → Fin 128 → ℝ) (r : Fin 1024 → ℝ)
  (hd : Directions x1 θ)
  (h2 : ∀ m k, x2 (ix2 m k) = ((r m : ℝ) : EReal))

/-- Each direction's sum of squares, as the body takes it. -/
def squares (x1 : Vec Ideal S128x128 .f32) : FVec Ideal S128 .f32 :=
  multiReduction .add [1] S128 (mulf x1 x1 : FVec Ideal S128x128 .f32) 0x00000000#32 reduces_S128x128_S128 (.inl rfl) rfl

theorem squares_apply (l : Fin 128) : squares x1 (ix1 l) = ∑ j, x1 (ix2 l j) * x1 (ix2 l j) := by
  refine (Ideal.multiReduction_add_single (mulf x1 x1 : FVec Ideal S128x128 .f32) _ reduces_S128x128_S128 (.inl rfl) rfl (ix1 l)).trans ?_
  refine Finset.sum_congr rfl fun j _ => ?_
  have e : reduces_S128x128_S128.lift (ix1 l) j = ix2 l j := by
    funext a
    match a with
    | ⟨0, _⟩ => rfl
    | ⟨1, _⟩ => rfl
  rw [e]
  rfl

include hd in
/-- The body scales every direction to unit length. -/
theorem directions_apply (l k : Fin 128) : k0_pay2 x1 (ix2 l k) = ((unit θ l k : ℝ) : EReal) := by
  show x1 (ix2 l k) * broadcastTo S128x128 (rsqrt (shapeCast S128x1 (squares x1) shapeCasts_S128_S128x1 : FVec Ideal S128x1 .f32)) broadcasts_S128x1_S128x128 (ix2 l k) = _
  rw [broadcastTo_apply _ _ _ (ix2 l (0 : Fin 1)) (fun a => by
    match a with
    | ⟨0, _⟩ => rfl
    | ⟨1, _⟩ => rfl)]
  show x1 (ix2 l k) * Ideal.rsqrt (shapeCast S128x1 (squares x1) shapeCasts_S128_S128x1 (ix2 l (0 : Fin 1))) = _
  rw [shapeCast_apply _ _ _ (ix1 l) (by
    rw [Shape.rowMajor_val_one, Shape.rowMajor_val_two]
    show l.val = l.val * 1 + 0
    omega), squares_apply x1]
  rcases hd l with ⟨h1, hθ⟩ | ⟨⟨j, hj⟩, h0⟩
  · rw [coe_dot _ _ (θ l) (θ l) h1 h1, h1, Ideal.rsqrt_coe, if_neg (not_lt.2 hθ.le), if_neg hθ.ne', ← EReal.coe_mul]
    rfl
  · rw [sum_squares_top (fun j => x1 (ix2 l j)) j hj, Ideal.rsqrt_top, mul_zero, unit_zero θ l k h0, EReal.coe_zero]

include hd in
/-- The body's projections of the points. -/
theorem points_apply (x0 : Vec Ideal S1x4096x128 .f32) (X : Fin 4096 → Fin 128 → ℝ)
    (h0 : ∀ i k, x0 (ix3 (0 : Fin 1) i k) = ((X i k : ℝ) : EReal)) (i : Fin 4096) (l : Fin 128) :
    points x0 x1 (ix2 i l) = ((proj θ (X i) l : ℝ) : EReal) := by
  refine (Ideal.matmul_transposedRhs_apply (M := 4096) (K := 128) (N := 128) (some .fp32) (shapeCast S4096x128 x0 shapeCasts_S1x4096x128_S4096x128)
    (k0_pay2 x1) (constant S4096x128 .f32 0x00000000#32) i l).trans ?_
  rw [constant_apply, Ideal.ofBits_zero_f32, zero_add]
  refine coe_dot _ _ (X i) (unit θ l) (fun k => ?_) (directions_apply x1 θ hd l)
  refine (shapeCast_apply _ _ _ (ix3 (0 : Fin 1) i k) ?_).trans (h0 i k)
  rw [Shape.rowMajor_val_three, Shape.rowMajor_val_two]
  show (0 * 4096 + i.val) * 128 + k.val = i.val * 128 + k.val
  omega

include hd h2 in
/-- The body's projections of the reference points. -/
theorem references_apply (m : Fin 1024) (l : Fin 128) : k0_pay3 x1 x2 (ix2 m l) = ((r m * slope θ l : ℝ) : EReal) := by
  refine (Ideal.matmul_transposedRhs_apply (M := 1024) (K := 128) (N := 128) none x2
    (k0_pay2 x1) (constant S1024x128 .f32 0x00000000#32) m l).trans ?_
  rw [constant_apply, Ideal.ofBits_zero_f32, zero_add]
  refine (coe_dot _ _ (fun _ => r m) (unit θ l) (fun k => h2 m k) (directions_apply x1 θ hd l)).trans ?_
  rw [← Finset.mul_sum]
  rfl

include hd h2 in
/-- The direction bit of a lane: set where the reference points' projections do not decrease. -/
theorem laneBit_apply (hr : r 0 < r 1023) (l : Fin 128) : k0_pay4 x1 x2 (ix2 (0 : Fin 1) l) = if 0 ≤ slope θ l then 1#1 else 0#1 := by
  have ea : extractStridedSlice S1x128 ![1023, 0] (k0_pay3 x1 x2) slices_S1024x128_o1023_0_S1x128 (ix2 (0 : Fin 1) l)
      = ((r 1023 * slope θ l : ℝ) : EReal) := by
    refine (extractStridedSlice_apply _ _ _ _ (ix2 (1023 : Fin 1024) l) (fun a => ?_)).trans (references_apply x1 x2 θ r hd h2 1023 l)
    match a with
    | ⟨0, _⟩ => rfl
    | ⟨1, _⟩ => show l.val = 0 + l.val; omega
  have eb : extractStridedSlice S1x128 ![0, 0] (k0_pay3 x1 x2) slices_S1024x128_o0_0_S1x128 (ix2 (0 : Fin 1) l)
      = ((r 0 * slope θ l : ℝ) : EReal) := by
    refine (extractStridedSlice_apply _ _ _ _ (ix2 (0 : Fin 1024) l) (fun a => ?_)).trans (references_apply x1 x2 θ r hd h2 0 l)
    match a with
    | ⟨0, _⟩ => rfl
    | ⟨1, _⟩ => show l.val = 0 + l.val; omega
  show FloatOps.cmpf .oge (extractStridedSlice S1x128 ![1023, 0] (k0_pay3 x1 x2) slices_S1024x128_o1023_0_S1x128 (ix2 (0 : Fin 1) l)
    - extractStridedSlice S1x128 ![0, 0] (k0_pay3 x1 x2) slices_S1024x128_o0_0_S1x128 (ix2 (0 : Fin 1) l) : EReal) (Ideal.ofBits .f32 0x00000000#32) = _
  rw [ea, eb, Ideal.ofBits_zero_f32, ← EReal.coe_sub, ← sub_mul]
  have hiff : 0 ≤ (r 1023 - r 0) * slope θ l ↔ 0 ≤ slope θ l := mul_nonneg_iff_of_pos_left (sub_pos.2 hr)
  have hiff' : (0 : EReal) ≤ (((r 1023 - r 0) * slope θ l : ℝ) : EReal) ↔ 0 ≤ slope θ l := by
    rw [← hiff]; exact EReal.coe_nonneg
  generalize (((r 1023 - r 0) * slope θ l : ℝ) : EReal) = z at *
  by_cases h : 0 ≤ slope θ l
  · rw [if_pos h]
    have := hiff'.2 h
    simp [FloatOps.cmpf, Ideal.cmp, this]
  · rw [if_neg h]
    have := mt hiff'.1 h
    simp [FloatOps.cmpf, Ideal.cmp, this]

end

/-! ## Interpolation by four weights -/

/-- A summand of the interpolation, read at an index. -/
theorem summand_apply (w : FVec Ideal S1024x1 .f32) (c : Fin 4) (T : FVec Ideal Rows .f32) (hs : S1024x4x128.Slices ![0, c.val, 0] S1024x1x128)
    (m : Fin 1024) (l : Fin 128) (i : Fin 4096) (hi : i.val = 4 * m.val + c.val) :
    summand w ![0, c.val, 0] T hs (ix2 m l) = w (ix2 m (0 : Fin 1)) * T (ix2 i l) := by
  unfold summand
  rw [mulf_apply, shapeCast_self]
  congr 1
  · exact broadcastTo_apply _ _ _ (ix2 m (0 : Fin 1)) (fun a => by
      match a with
      | ⟨0, _⟩ => rfl
      | ⟨1, _⟩ => rfl)
  · refine (shapeCast_apply _ _ _ (ix3 m (0 : Fin 1) l) ?_).trans ?_
    · rw [Shape.rowMajor_val_three, Shape.rowMajor_val_two]
      show (m.val * 1 + 0) * 128 + l.val = m.val * 128 + l.val
      omega
    refine (extractStridedSlice_apply _ _ hs _ (ix3 m c l) ?_).trans ?_
    · intro a
      match a with
      | ⟨0, _⟩ => show m.val = 0 + m.val; omega
      | ⟨1, _⟩ => show c.val = c.val + 0; omega
      | ⟨2, _⟩ => show l.val = 0 + l.val; omega
    refine shapeCast_apply _ _ _ (ix2 i l) ?_
    rw [Shape.rowMajor_val_three, Shape.rowMajor_val_two]
    show i.val * 128 + l.val = (m.val * 4 + c.val) * 128 + l.val
    omega

/-- A column of the weights, as the body loads it. -/
theorem load_apply (x : Vec Ideal S1024x4 .f32) (c : Fin 4) (inb) (m : Fin 1024) :
    View.ld x (Rect.unit ![0, c.val] S1024x1.size inb) (ix2 m (0 : Fin 1)) = x (ix2 m c) := by
  refine View.ld_unit_apply_of x _ _ _ _ _ (fun a => ?_)
  match a with
  | ⟨0, _⟩ => show m.val = 0 + m.val; omega
  | ⟨1, _⟩ => show c.val = c.val + 0; omega

/-- The interpolation at real weights and a real lane: the four weights against four consecutive entries. -/
theorem mix_apply (x : Vec Ideal S1024x4 .f32) (T : FVec Ideal Rows .f32) (m : Fin 1024) (l : Fin 128) (W : Fin 4 → ℝ) (u : ℕ → ℝ)
    (hx : ∀ c, x (ix2 m c) = ((W c : ℝ) : EReal)) (hT : ∀ i : Fin 4096, T (ix2 i l) = ((u i : ℝ) : EReal)) :
    mix x T (ix2 m l) = ((W 0 * u (4 * m) + W 1 * u (4 * m + 1) + W 2 * u (4 * m + 2) + W 3 * u (4 * m + 3) : ℝ) : EReal) := by
  have hm := m.isLt
  have hc : ∀ (c : Fin 4) (inb) (hs : S1024x4x128.Slices ![0, c.val, 0] S1024x1x128),
      summand (View.ld x (Rect.unit ![0, c.val] S1024x1.size inb)) ![0, c.val, 0] T hs (ix2 m l) = ((W c * u (4 * m + c) : ℝ) : EReal) := by
    intro c inb hs
    have hcl := c.isLt
    rw [summand_apply _ c T hs m l ⟨4 * m.val + c.val, by omega⟩ rfl, load_apply, hx, hT, EReal.coe_mul]
  unfold mix
  rw [addf_apply, addf_apply, addf_apply, addf_apply, broadcast_apply]
  refine (congrArg₂ (· + ·) (congrArg₂ (· + ·) (congrArg₂ (· + ·) (congrArg₂ (· + ·) Ideal.ofBits_zero_f32 (hc 0 _ _)) (hc 1 _ _)) (hc 2 _ _))
    (hc 3 _ _)).trans ?_
  show (0 + ((W 0 * u (4 * m + 0) : ℝ) : EReal) + ((W 1 * u (4 * m + 1) : ℝ) : EReal) + ((W 2 * u (4 * m + 2) : ℝ) : EReal)
    + ((W 3 * u (4 * m + 3) : ℝ) : EReal) : EReal) = _
  rw [zero_add, ← EReal.coe_add, ← EReal.coe_add, ← EReal.coe_add]
  rfl

/-- The increasing weights against an increasing lane interpolate. -/
theorem four_up (v : ℕ → ℝ) (m : ℕ) (hm : m < 1024) (W : Fin 4 → ℝ)
    (hW : ∀ c : Fin 4, W c = (if c.val = left m - 4 * m then 1 - share m else 0) + (if c.val = left m - 4 * m + 1 then share m else 0)) :
    W 0 * v (4 * m) + W 1 * v (4 * m + 1) + W 2 * v (4 * m + 2) + W 3 * v (4 * m + 3) = interpolated v m := by
  have hb := left_bounds m hm
  rw [interpolated_eq]
  obtain ⟨d, hd⟩ : ∃ d, left m = 4 * m + d := ⟨left m - 4 * m, by omega⟩
  have hd' : left m - 4 * m = d := by omega
  rw [hd'] at hW
  rw [hd]
  have hd2 : d < 3 := by omega
  rw [hW 0, hW 1, hW 2, hW 3]
  interval_cases d <;> simp <;> ring

/-- The decreasing weights against a lane read from its end interpolate at the query counted from the end. -/
theorem four_down (v : ℕ → ℝ) (m : Fin 1024) (W : Fin 4 → ℝ)
    (hW : ∀ c : Fin 4, W c = (if c.val = 4095 - left m.rev - 4 * m then 1 - share m.rev else 0)
      + (if c.val = 4095 - left m.rev - 4 * m - 1 then share m.rev else 0)) :
    W 0 * v (4095 - 4 * m) + W 1 * v (4095 - (4 * m + 1)) + W 2 * v (4095 - (4 * m + 2)) + W 3 * v (4095 - (4 * m + 3)) = interpolated v m.rev := by
  have hm := m.isLt
  have hb := left_bounds m.rev m.rev.isLt
  have hr : m.rev.val = 1023 - m.val := by rw [Fin.val_rev]; omega
  rw [interpolated_eq]
  generalize hρ : m.rev.val = ρ at *
  obtain ⟨d, hd⟩ : ∃ d, left ρ = 4 * ρ + d := ⟨left ρ - 4 * ρ, by omega⟩
  have hd' : 4095 - left ρ - 4 * m = 3 - d := by omega
  rw [hd'] at hW
  have hd2 : d < 3 := by omega
  rw [hW 0, hW 1, hW 2, hW 3, hd]
  have e0 : 4095 - 4 * m.val = 4 * ρ + 3 := by omega
  have e1 : 4095 - (4 * m.val + 1) = 4 * ρ + 2 := by omega
  have e2 : 4095 - (4 * m.val + 2) = 4 * ρ + 1 := by omega
  have e3 : 4095 - (4 * m.val + 3) = 4 * ρ := by omega
  rw [e0, e1, e2, e3]
  interval_cases d <;> simp <;> ring

/-! ## Ties -/

theorem ofBits_two : Ideal.ofBits .f32 0x40000000#32 = ((2 : ℝ) : EReal) := by
  simp [Ideal.ofBits, Ideal.ieee]
  rw [← EReal.coe_mul]
  norm_num

section
variable (w : FVec Ideal S1024x1 .f32) (r : Fin 1024 → ℝ) (hw : ∀ m, w (ix2 m (0 : Fin 1)) = ((r m : ℝ) : EReal)) (hr : StrictMono r)

include hw hr in
/-- No reference value equals the next. -/
theorem tieNext_apply (m : Fin 1024) : tieNext w (ix2 m (0 : Fin 1)) = 0#1 := by
  have hm := m.isLt
  have e : ∃ y : ℝ, r m < y ∧ concatenate S1024x1 0
    [⟨S1023x1, extractStridedSlice S1023x1 ![1, 0] w slices_S1024x1_o1_0_S1023x1⟩,
     ⟨S1x1, addf (extractStridedSlice S1x1 ![1023, 0] w slices_S1024x1_o1023_0_S1x1) (broadcast S1x1 (FloatOps.ofBits .f32 0x40000000#32))⟩]
    concatenates_S1023x1_S1x1_S1024x1_d0 (ix2 m (0 : Fin 1)) = ((y : ℝ) : EReal) := by
    by_cases h : m.val < 1023
    · refine ⟨r ⟨m.val + 1, by omega⟩, hr (Fin.lt_def.2 (Nat.lt_succ_self _)), ?_⟩
      refine (concatenate_pair_apply_left (t := S1024x1) (s₁ := S1023x1) (s₂ := S1x1) 0 _ _ concatenates_S1023x1_S1x1_S1024x1_d0 _ rfl
        (ix2 (⟨m.val, h⟩ : Fin 1023) (0 : Fin 1)) (fun b => by
          match b with
          | ⟨0, _⟩ => rfl
          | ⟨1, _⟩ => rfl)).trans ?_
      refine (extractStridedSlice_apply _ _ _ _ (ix2 (⟨m.val + 1, by omega⟩ : Fin 1024) (0 : Fin 1)) (fun a => ?_)).trans (hw _)
      match a with
      | ⟨0, _⟩ => show m.val + 1 = 1 + m.val; omega
      | ⟨1, _⟩ => rfl
    · refine ⟨r 1023 + 2, ?_, ?_⟩
      · have : m = 1023 := Fin.ext (by show m.val = 1023; omega)
        rw [this]; linarith
      refine (concatenate_pair_apply_right (t := S1024x1) (s₁ := S1023x1) (s₂ := S1x1) 0 _ _ concatenates_S1023x1_S1x1_S1024x1_d0 _ rfl rfl
        (ix2 (0 : Fin 1) (0 : Fin 1)) (fun b hb => by
          match b with
          | ⟨0, _⟩ => exact absurd rfl hb
          | ⟨1, _⟩ => rfl) (by show 0 + 1023 = m.val; omega)).trans ?_
      rw [addf_apply, broadcast_apply]
      refine (congrArg₂ (· + ·) ((extractStridedSlice_apply _ _ _ _ (ix2 (1023 : Fin 1024) (0 : Fin 1)) (fun a => ?_)).trans (hw _)) ofBits_two).trans
        (EReal.coe_add _ _).symm
      match a with
      | ⟨0, _⟩ => rfl
      | ⟨1, _⟩ => rfl
  obtain ⟨y, hy, e⟩ := e
  unfold tieNext
  rw [cmpf_apply, e, hw]
  have : r m ≠ y := hy.ne
  simp [FloatOps.cmpf, Ideal.cmp, this]

include hw hr in
/-- No reference value equals the one before it. -/
theorem tiePrev_apply (m : Fin 1024) : tiePrev w (ix2 m (0 : Fin 1)) = 0#1 := by
  have hm := m.isLt
  have e : ∃ y : ℝ, y < r m ∧ concatenate S1024x1 0
    [⟨S1x1, subf (extractStridedSlice S1x1 ![0, 0] w slices_S1024x1_o0_0_S1x1) (broadcast S1x1 (FloatOps.ofBits .f32 0x40000000#32))⟩,
     ⟨S1023x1, extractStridedSlice S1023x1 ![0, 0] w slices_S1024x1_o0_0_S1023x1⟩]
    concatenates_S1x1_S1023x1_S1024x1_d0 (ix2 m (0 : Fin 1)) = ((y : ℝ) : EReal) := by
    by_cases h : m.val = 0
    · refine ⟨r 0 - 2, ?_, ?_⟩
      · have : m = 0 := Fin.ext h
        rw [this]; linarith
      refine (concatenate_pair_apply_left (t := S1024x1) (s₁ := S1x1) (s₂ := S1023x1) 0 _ _ concatenates_S1x1_S1023x1_S1024x1_d0 _ rfl
        (ix2 (0 : Fin 1) (0 : Fin 1)) (fun b => by
          match b with
          | ⟨0, _⟩ => exact h.symm
          | ⟨1, _⟩ => rfl)).trans ?_
      rw [subf_apply, broadcast_apply]
      refine (congrArg₂ (· - ·) ((extractStridedSlice_apply _ _ _ _ (ix2 (0 : Fin 1024) (0 : Fin 1)) (fun a => ?_)).trans (hw _)) ofBits_two).trans
        (EReal.coe_sub _ _).symm
      match a with
      | ⟨0, _⟩ => rfl
      | ⟨1, _⟩ => rfl
    · refine ⟨r ⟨m.val - 1, by omega⟩, hr (Fin.lt_def.2 (by show m.val - 1 < m.val; omega)), ?_⟩
      refine (concatenate_pair_apply_right (t := S1024x1) (s₁ := S1x1) (s₂ := S1023x1) 0 _ _ concatenates_S1x1_S1023x1_S1024x1_d0 _ rfl rfl
        (ix2 (⟨m.val - 1, by omega⟩ : Fin 1023) (0 : Fin 1)) (fun b hb => by
          match b with
          | ⟨0, _⟩ => exact absurd rfl hb
          | ⟨1, _⟩ => rfl) (by show m.val - 1 + 1 = m.val; omega)).trans ?_
      refine (extractStridedSlice_apply _ _ _ _ (ix2 (⟨m.val - 1, by omega⟩ : Fin 1024) (0 : Fin 1)) (fun a => ?_)).trans (hw _)
      match a with
      | ⟨0, _⟩ => show m.val - 1 = 0 + (m.val - 1); omega
      | ⟨1, _⟩ => rfl
  obtain ⟨y, hy, e⟩ := e
  unfold tiePrev
  rw [cmpf_apply, e, hw]
  have : r m ≠ y := hy.ne'
  simp [FloatOps.cmpf, Ideal.cmp, this]

end

/-- Where there are no ties nothing is exchanged. -/
theorem untie_apply (tn tp : IVec S1024x1 1) (Y : FVec Ideal S1024x128 .f32) (m : Fin 1024) (l : Fin 128)
    (h1 : tn (ix2 m (0 : Fin 1)) = 0#1) (h2 : tp (ix2 m (0 : Fin 1)) = 0#1) : untie tn tp Y (ix2 m l) = Y (ix2 m l) := by
  have e : ∀ t : IVec S1024x1 1, broadcastTo S1024x128 (shapeCast S1024x1 t shapeCasts_S1024x1_S1024x1) broadcasts_S1024x1_S1024x128 (ix2 m l)
      = t (ix2 m (0 : Fin 1)) := fun t => by
    rw [shapeCast_self]
    exact broadcastTo_apply _ _ _ (ix2 m (0 : Fin 1)) (fun a => by
      match a with
      | ⟨0, _⟩ => rfl
      | ⟨1, _⟩ => rfl)
  unfold untie
  rw [select_apply, e, h1, select_zero, select_apply, e, h2, select_zero]

/-! ## The stored block -/

/-- The body at real inputs, from a sorted block: it stores the embedding's entries. -/
theorem body_apply (x1 : Vec Ideal S128x128 .f32) (x2 : Vec Ideal S1024x128 .f32) (x3 x4 : Vec Ideal S1024x4 .f32) (T : FVec Ideal Rows .f32)
    (θ : Fin 128 → Fin 128 → ℝ) (r : Fin 1024 → ℝ) (X : Fin 4096 → Fin 128 → ℝ)
    (hd : Directions x1 θ)
    (h2 : ∀ m k, x2 (ix2 m k) = ((r m : ℝ) : EReal)) (hr : StrictMono r)
    (h3 : ∀ (m : Fin 1024) (c : Fin 4), x3 (ix2 m c)
      = (((if c.val = left m - 4 * m then 1 - share m else 0) + (if c.val = left m - 4 * m + 1 then share m else 0) : ℝ) : EReal))
    (h4 : ∀ (m : Fin 1024) (c : Fin 4), x4 (ix2 m c)
      = (((if c.val = 4095 - left m.rev - 4 * m then 1 - share m.rev else 0)
        + (if c.val = 4095 - left m.rev - 4 * m - 1 then share m.rev else 0) : ℝ) : EReal))
    (l : Fin 128) (hT : ∀ i : Fin 4096, T (ix2 i l) = ((lane X θ l (if 0 ≤ slope θ l then i else 4095 - i) : ℝ) : EReal)) (m : Fin 1024) :
    body x1 x2 x3 x4 T (ix3 (0 : Fin 1) l m) = ((entry X θ r l m : ℝ) : EReal) := by
  have hbit := laneBit_apply x1 x2 θ r hd h2 (hr (by decide)) l
  have href := references_apply x1 x2 θ r hd h2 m l
  unfold body
  refine (shapeCast_apply _ _ _ (ix2 l m) ?_).trans ?_
  · rw [Shape.rowMajor_val_three, Shape.rowMajor_val_two]
    show l.val * 1024 + m.val = (0 * 128 + l.val) * 1024 + m.val
    omega
  refine (transpose_apply _ _ _ _ (ix2 m l) ?_).trans ?_
  · intro b
    match b with
    | ⟨0, _⟩ => rfl
    | ⟨1, _⟩ => rfl
  rw [subf_apply, href, select_apply, shapeCast_self,
    broadcastTo_apply _ _ _ (ix2 (0 : Fin 1) l) (fun a => by
      match a with
      | ⟨0, _⟩ => rfl
      | ⟨1, _⟩ => rfl), hbit]
  by_cases h : 0 ≤ slope θ l
  · rw [if_pos h, select_one]
    simp only [if_pos h] at hT
    rw [mix_apply x3 T m l _ _ (h3 m) hT, ← EReal.coe_sub, four_up _ m m.isLt _ (fun c => rfl)]
    unfold entry place
    rw [if_pos h]
  · rw [if_neg h, select_zero]
    simp only [if_neg h] at hT
    have hcol : ∀ q : Fin 1024, rounded (View.ld x2 (Rect.unit ![0, 0] S1024x1.size inb_S1024x128_S1024x1_0_0)) (ix2 q (0 : Fin 1)) = ((r q : ℝ) : EReal) := fun q => by
      refine Eq.trans ?_ (h2 q 0)
      refine View.ld_unit_apply_of x2 _ _ _ _ _ (fun a => ?_)
      match a with
      | ⟨0, _⟩ => show q.val = 0 + q.val; omega
      | ⟨1, _⟩ => rfl
    rw [untie_apply _ _ _ m l (tieNext_apply _ r hcol hr m) (tiePrev_apply _ r hcol hr m),
      mix_apply x4 T m l _ (fun i => lane X θ l (4095 - i)) (h4 m) hT, ← EReal.coe_sub]
    have e := four_down (lane X θ l) m _ (fun c => rfl)
    unfold entry place
    rw [if_neg h, ← e]

end Cert.Embedding

end
-- ==== Proof.Passes.lean ====
/-
  What the sorting passes do to one lane, over the reals. A pass over the distance `2 ^ s` is the stage of a sorting network
  that exchanges every position with the one `2 ^ s` after it; a pass over two distances is two such stages.
-/
module

public import proofs.«01_k».proof.Proof.Fold
public import Idealize.ShloMosaic.Lib.SortNet.Sorts
public import Idealize.ShloMosaic.Lib.ValueIdx

@[expose] public section

noncomputable section

namespace Cert.KernelIdeal.Sorting

open Idealize.ShloMosaic Idealize.ShloMosaic.ValueIdx Idealize.ShloMosaic.SortNet

/-- One lane of a block, as a function of the row. -/
def col (S : FVec Ideal Rows .f32) (l : Fin 128) : Fin (2 ^ 12) → EReal := fun r => S (ix2 r l)

/-- Where the direction bit says "up", `lower` is the lesser entry, else the greater one. -/
theorem lower_apply {s : Shape} (up : IVec s 1) (u v : FVec Ideal s .f32) (i : s.Idx) (w : Bool)
    (h : up i = if w then 0#1 else 1#1) : lower up u v i = if w then max (u i) (v i) else min (u i) (v i) := by
  cases w <;> simp only [lower, select_apply, h] <;> rfl

/-- Where the direction bit says "up", `upper` is the greater entry, else the lesser one. -/
theorem upper_apply {s : Shape} (up : IVec s 1) (u v : FVec Ideal s .f32) (i : s.Idx) (w : Bool)
    (h : up i = if w then 0#1 else 1#1) : upper up u v i = if w then min (u i) (v i) else max (u i) (v i) := by
  cases w <;> simp only [upper, select_apply, h] <;> rfl

/-- A slice of `pass2` read at an index is the block at the row it stands for. -/
theorem quarter_apply (G d a b : Nat) (S : FVec Ideal Rows .f32) (h5) (hs) (h3) (g : Fin G) (j : Fin d) (l : Fin 128)
    (i : Fin 4096) (ha : a < 2) (hb : b < 2) (hi : i.val = ((g.val * 2 + a) * 2 + b) * d + j.val) :
    quarter G d ![0, a, b, 0, 0] S h5 hs h3 (ix3 g j l) = S (ix2 i l) := by
  unfold quarter
  refine (shapeCast_apply _ h3 _ (ix5 g (0 : Fin 1) (0 : Fin 1) j l) ?_).trans ?_
  · rw [Shape.rowMajor_val_five, Shape.rowMajor_val_three]
    show (((g.val * 1 + 0) * 1 + 0) * d + j.val) * 128 + l.val = (g.val * d + j.val) * 128 + l.val
    simp
  refine (extractStridedSlice_apply _ _ hs _ (ix5 g (⟨a, ha⟩ : Fin 2) (⟨b, hb⟩ : Fin 2) j l) ?_).trans ?_
  · intro x
    match x with
    | ⟨0, _⟩ => show g.val = 0 + g.val; omega
    | ⟨1, _⟩ => show a = a + 0; omega
    | ⟨2, _⟩ => show b = b + 0; omega
    | ⟨3, _⟩ => show j.val = 0 + j.val; omega
    | ⟨4, _⟩ => show l.val = 0 + l.val; omega
  refine shapeCast_apply _ h5 _ (ix2 i l) ?_
  rw [Shape.rowMajor_val_five, Shape.rowMajor_val_two]
  show i.val * 128 + l.val = (((g.val * 2 + a) * 2 + b) * d + j.val) * 128 + l.val
  rw [hi]

/-- A slice of `pass1` read at an index is the block at the row it stands for. -/
theorem half_apply (G d a : Nat) (S : FVec Ideal Rows .f32) (h4) (hs) (h3) (g : Fin G) (j : Fin d) (l : Fin 128)
    (i : Fin 4096) (ha : a < 2) (hi : i.val = (g.val * 2 + a) * d + j.val) :
    half G d ![0, a, 0, 0] S h4 hs h3 (ix3 g j l) = S (ix2 i l) := by
  unfold half
  refine (shapeCast_apply _ h3 _ (ix4 g (0 : Fin 1) j l) ?_).trans ?_
  · rw [Shape.rowMajor_val_four, Shape.rowMajor_val_three]
    show ((g.val * 1 + 0) * d + j.val) * 128 + l.val = (g.val * d + j.val) * 128 + l.val
    simp
  refine (extractStridedSlice_apply _ _ hs _ (ix4 g (⟨a, ha⟩ : Fin 2) j l) ?_).trans ?_
  · intro x
    match x with
    | ⟨0, _⟩ => show g.val = 0 + g.val; omega
    | ⟨1, _⟩ => show a = a + 0; omega
    | ⟨2, _⟩ => show j.val = 0 + j.val; omega
    | ⟨3, _⟩ => show l.val = 0 + l.val; omega
  refine shapeCast_apply _ h4 _ (ix2 i l) ?_
  rw [Shape.rowMajor_val_four, Shape.rowMajor_val_two]
  show i.val * 128 + l.val = ((g.val * 2 + a) * d + j.val) * 128 + l.val
  rw [hi]

/-- The unit axis a pass adds to a slice is read away. -/
theorem addAxis_apply (G d : Nat) (y : FVec Ideal ⟨3, ![G, d, 128]⟩ .f32) (h) (g : Fin G) (j : Fin d) (l : Fin 128) :
    shapeCast ⟨4, ![G, 1, d, 128]⟩ y h (ix4 g (0 : Fin 1) j l) = y (ix3 g j l) := by
  refine shapeCast_apply _ h _ (ix3 g j l) ?_
  rw [Shape.rowMajor_val_four, Shape.rowMajor_val_three]
  show (g.val * d + j.val) * 128 + l.val = ((g.val * 1 + 0) * d + j.val) * 128 + l.val
  simp

/-- Four joined slices read at a row: the slice the row falls into. -/
theorem join4_apply (G d : Nat) (y : Fin 4 → FVec Ideal ⟨3, ![G, d, 128]⟩ .f32) (h4) (hc) (hb) (g : Fin G) (q : Fin 4)
    (j : Fin d) (l : Fin 128) (i : Fin 4096) (hi : i.val = (g.val * 4 + q.val) * d + j.val) :
    join4 G d (y 0) (y 1) (y 2) (y 3) h4 hc hb (ix2 i l) = y q (ix3 g j l) := by
  unfold join4
  refine (shapeCast_apply _ hb _ (ix4 g q j l) ?_).trans ?_
  · rw [Shape.rowMajor_val_four, Shape.rowMajor_val_two]
    show ((g.val * 4 + q.val) * d + j.val) * 128 + l.val = i.val * 128 + l.val
    rw [hi]
  refine (concatenate_apply_piece (t := ⟨4, ![G, 4, d, 128]⟩) 1 [⟨⟨4, ![G, 1, d, 128]⟩, shapeCast ⟨4, ![G, 1, d, 128]⟩ (y 0) h4⟩,
    ⟨⟨4, ![G, 1, d, 128]⟩, shapeCast ⟨4, ![G, 1, d, 128]⟩ (y 1) h4⟩,
    ⟨⟨4, ![G, 1, d, 128]⟩, shapeCast ⟨4, ![G, 1, d, 128]⟩ (y 2) h4⟩,
    ⟨⟨4, ![G, 1, d, 128]⟩, shapeCast ⟨4, ![G, 1, d, 128]⟩ (y 3) h4⟩] hc _ q.val q.isLt ⟨4, ![G, 1, d, 128]⟩ (shapeCast ⟨4, ![G, 1, d, 128]⟩ (y q) h4) ?_ rfl
    q.val ?_ (ix4 g (0 : Fin 1) j l) ?_ ?_).trans (addAxis_apply G d _ h4 g j l)
  · fin_cases q <;> rfl
  · fin_cases q <;> rfl
  · intro b hb
    match b with
    | ⟨0, _⟩ => rfl
    | ⟨1, _⟩ => exact absurd rfl hb
    | ⟨2, _⟩ => rfl
    | ⟨3, _⟩ => rfl
  · rfl

/-- Two joined slices read at a row: the slice the row falls into. -/
theorem join2_apply (G d : Nat) (y : Fin 2 → FVec Ideal ⟨3, ![G, d, 128]⟩ .f32) (h4) (hc) (hb) (g : Fin G) (q : Fin 2)
    (j : Fin d) (l : Fin 128) (i : Fin 4096) (hi : i.val = (g.val * 2 + q.val) * d + j.val) :
    join2 G d (y 0) (y 1) h4 hc hb (ix2 i l) = y q (ix3 g j l) := by
  unfold join2
  refine (shapeCast_apply _ hb _ (ix4 g q j l) ?_).trans ?_
  · rw [Shape.rowMajor_val_four, Shape.rowMajor_val_two]
    show ((g.val * 2 + q.val) * d + j.val) * 128 + l.val = i.val * 128 + l.val
    rw [hi]
  refine (concatenate_apply_piece (t := ⟨4, ![G, 2, d, 128]⟩) 1 [⟨⟨4, ![G, 1, d, 128]⟩, shapeCast ⟨4, ![G, 1, d, 128]⟩ (y 0) h4⟩,
    ⟨⟨4, ![G, 1, d, 128]⟩, shapeCast ⟨4, ![G, 1, d, 128]⟩ (y 1) h4⟩] hc _ q.val q.isLt ⟨4, ![G, 1, d, 128]⟩ (shapeCast ⟨4, ![G, 1, d, 128]⟩ (y q) h4) ?_ rfl
    q.val ?_ (ix4 g (0 : Fin 1) j l) ?_ ?_).trans (addAxis_apply G d _ h4 g j l)
  · fin_cases q <;> rfl
  · fin_cases q <;> rfl
  · intro b hb
    match b with
    | ⟨0, _⟩ => rfl
    | ⟨1, _⟩ => exact absurd rfl hb
    | ⟨2, _⟩ => rfl
    | ⟨3, _⟩ => rfl
  · rfl

/-- Bit `s` of a number is clear exactly when its quotient by `2 ^ s` is even. -/
theorem and_two_pow_eq_zero_iff (i s : Nat) : i &&& 2 ^ s = 0 ↔ i / 2 ^ s % 2 = 0 := by
  rw [and_two_pow_eq_zero_iff_testBit, Nat.testBit_eq_decide_div_mod_eq]
  simp only [decide_eq_false_iff_not]
  omega

/-- A column that holds, at every pair of positions of the stage, the lesser and the greater of the two entries is the stage's
    result. -/
theorem eq_apply_stage {s : Nat} (hs : s < 12) (w : Fin (2 ^ 12) → Bool) (v v' : Fin (2 ^ 12) → EReal)
    (h : ∀ i : Fin (2 ^ 12), i.val / 2 ^ s % 2 = 0 →
      v' i = (if w i then max (v i) (v (partner 12 s i)) else min (v i) (v (partner 12 s i)))
      ∧ v' (partner 12 s i) = (if w i then min (v i) (v (partner 12 s i)) else max (v i) (v (partner 12 s i)))) :
    v' = Network.apply (stage 12 s w) v := by
  funext j
  by_cases hj : j.val &&& 2 ^ s = 0
  · rw [(apply_stage hs w v j hj).1, (h j ((and_two_pow_eq_zero_iff _ _).1 hj)).1]
  · have hp := partner_and_of_set hs j hj
    have e1 := (apply_stage hs w v _ hp).2
    have e2 := (h _ ((and_two_pow_eq_zero_iff _ _).1 hp)).2
    rw [partner_partner hs] at e1 e2
    rw [e1, e2]

/-- The partner of a position whose quotient by the distance is even. -/
theorem partner_eq {s : Nat} (hs : s < 12) (i k : Fin (2 ^ 12)) (hi : i.val / 2 ^ s % 2 = 0) (hk : k.val = i.val + 2 ^ s) :
    partner 12 s i = k :=
  Fin.ext ((partner_val_of_clear hs i ((and_two_pow_eq_zero_iff _ _).2 hi)).trans hk.symm)

/-- A pass over one distance is one stage of the network. -/
theorem col_pass1 (G d s : Nat) (hs : s < 12) (hd : d = 2 ^ s) (hG : G * 2 * d = 4096) (up : IVec ⟨3, ![G, d, 128]⟩ 1)
    (S : FVec Ideal Rows .f32) (h4) (hs0) (hs1) (h3) (hu) (hc) (hb) (l : Fin 128) (w : Fin (2 ^ 12) → Bool)
    (hup : ∀ (g : Fin G) (j : Fin d) (i : Fin (2 ^ 12)), i.val / d / 2 = g.val → i.val % d = j.val →
      up (ix3 g j l) = if w i then 0#1 else 1#1) :
    col (pass1 G d up S h4 hs0 hs1 h3 hu hc hb) l = Network.apply (stage 12 s w) (col S l) := by
  refine eq_apply_stage hs w _ _ fun i hi => ?_
  rw [← hd] at hi
  have hdpos : 0 < d := hd ▸ Nat.two_pow_pos s
  have hlt : i.val < G * 2 * d := hG ▸ i.isLt
  have he : i.val / d < G * 2 := Nat.div_lt_of_lt_mul (by rwa [Nat.mul_comm])
  have hidm := Nat.div_add_mod i.val d
  have hjl := Nat.mod_lt i.val hdpos
  let g : Fin G := ⟨i.val / d / 2, by omega⟩
  let j : Fin d := ⟨i.val % d, hjl⟩
  have eg : i.val / d = g.val * 2 := by show _ = i.val / d / 2 * 2; omega
  have ei : i.val = (g.val * 2) * d + j.val := by rw [← eg, Nat.mul_comm]; exact hidm.symm
  have hkl : (g.val * 2 + 1) * d + j.val < 4096 := by
    have h1 : (g.val * 2 + 2) * d ≤ G * 2 * d := Nat.mul_le_mul_right d (by have := g.isLt; omega)
    rw [hG] at h1
    have h2 : (g.val * 2 + 2) * d = (g.val * 2 + 1) * d + d := by ring
    have h3 : j.val < d := j.isLt
    omega
  let k : Fin (2 ^ 12) := ⟨(g.val * 2 + 1) * d + j.val, hkl⟩
  have hk : k.val = i.val + d := by
    show (g.val * 2 + 1) * d + j.val = i.val + d
    rw [ei]; ring
  rw [partner_eq hs i k (hd ▸ hi) (hd ▸ hk)]
  have hu0 := hup g j i rfl rfl
  have r0 : half G d ![0, 0, 0, 0] S h4 hs0 h3 (ix3 g j l) = S (ix2 i l) :=
    half_apply G d 0 S h4 hs0 h3 g j l i (by decide) ei
  have r1 : half G d ![0, 1, 0, 0] S h4 hs1 h3 (ix3 g j l) = S (ix2 k l) :=
    half_apply G d 1 S h4 hs1 h3 g j l k (by decide) rfl
  constructor
  · refine (join2_apply G d ![lower up (half G d ![0, 0, 0, 0] S h4 hs0 h3) (half G d ![0, 1, 0, 0] S h4 hs1 h3),
      upper up (half G d ![0, 0, 0, 0] S h4 hs0 h3) (half G d ![0, 1, 0, 0] S h4 hs1 h3)] hu hc hb g 0 j l i ei).trans ?_
    refine (lower_apply up _ _ _ (w i) hu0).trans ?_
    rw [r0, r1]; rfl
  · refine (join2_apply G d ![lower up (half G d ![0, 0, 0, 0] S h4 hs0 h3) (half G d ![0, 1, 0, 0] S h4 hs1 h3),
      upper up (half G d ![0, 0, 0, 0] S h4 hs0 h3) (half G d ![0, 1, 0, 0] S h4 hs1 h3)] hu hc hb g 1 j l k rfl).trans ?_
    refine (upper_apply up _ _ _ (w i) hu0).trans ?_
    rw [r0, r1]; rfl

/-- A pass over two distances is two stages of the network, the greater distance first. -/
theorem col_pass2 (G d s : Nat) (hs : s + 1 < 12) (hd : d = 2 ^ s) (hG : G * 4 * d = 4096) (up : IVec ⟨3, ![G, d, 128]⟩ 1)
    (S : FVec Ideal Rows .f32) (h5) (hs0) (hs1) (hs2) (hs3) (h3) (h4) (hc) (hb) (l : Fin 128) (w : Fin (2 ^ 12) → Bool)
    (hup : ∀ (g : Fin G) (j : Fin d) (i : Fin (2 ^ 12)), i.val / d / 4 = g.val → i.val % d = j.val →
      up (ix3 g j l) = if w i then 0#1 else 1#1) :
    col (pass2 G d up S h5 hs0 hs1 hs2 hs3 h3 h4 hc hb) l
      = Network.apply (stage 12 s w) (Network.apply (stage 12 (s + 1) w) (col S l)) := by
  refine eq_apply_stage (by omega) w _ _ fun i hi => ?_
  rw [← hd] at hi
  have hdpos : 0 < d := hd ▸ Nat.two_pow_pos s
  have hlt : i.val < G * 4 * d := hG ▸ i.isLt
  have he : i.val / d < G * 4 := Nat.div_lt_of_lt_mul (by rwa [Nat.mul_comm])
  have hidm := Nat.div_add_mod i.val d
  have hjl := Nat.mod_lt i.val hdpos
  let g : Fin G := ⟨i.val / d / 4, by omega⟩
  let j : Fin d := ⟨i.val % d, hjl⟩
  have hPl : ∀ q : Fin 4, (g.val * 4 + q.val) * d + j.val < 4096 := by
    intro q
    have h1 : (g.val * 4 + q.val + 1) * d ≤ G * 4 * d :=
      Nat.mul_le_mul_right d (by have := g.isLt; have := q.isLt; omega)
    rw [hG] at h1
    have h2 : (g.val * 4 + q.val + 1) * d = (g.val * 4 + q.val) * d + d := by ring
    have h3 : j.val < d := j.isLt
    omega
  let P : Fin 4 → Fin (2 ^ 12) := fun q => ⟨(g.val * 4 + q.val) * d + j.val, hPl q⟩
  have hPd : ∀ q, (P q).val / d = g.val * 4 + q.val := by
    intro q
    show ((g.val * 4 + q.val) * d + j.val) / d = _
    rw [Nat.add_comm, Nat.add_mul_div_right _ _ hdpos, Nat.div_eq_of_lt j.isLt, Nat.zero_add]
  have hPm : ∀ q, (P q).val % d = j.val := by
    intro q
    show ((g.val * 4 + q.val) * d + j.val) % d = _
    rw [Nat.add_comm, Nat.add_mul_mod_self_right, Nat.mod_eq_of_lt j.isLt]
  have hPu : ∀ q, up (ix3 g j l) = if w (P q) then 0#1 else 1#1 := fun q =>
    hup g j (P q) (by rw [hPd]; have := q.isLt; omega) (hPm q)
  have hw : ∀ q, w (P q) = w (P 0) := by
    intro q
    have h0 := hPu q
    rw [hPu 0] at h0
    cases h1 : w (P q) <;> cases h2 : w (P 0) <;> simp_all
  have hps : 2 ^ (s + 1) = d * 2 := by rw [hd, pow_succ]
  -- the two stages' partners among the four rows
  have hlow : ∀ q q' : Fin 4, q.val % 2 = 0 → q'.val = q.val + 1 → partner 12 s (P q) = P q' := by
    intro q q' h0 h1
    refine partner_eq (by omega) _ _ (by rw [← hd, hPd]; omega) ?_
    show (g.val * 4 + q'.val) * d + j.val = (g.val * 4 + q.val) * d + j.val + 2 ^ s
    rw [← hd, h1]; ring
  have hhigh : ∀ q q' : Fin 4, q.val < 2 → q'.val = q.val + 2 → partner 12 (s + 1) (P q) = P q' := by
    intro q q' h0 h1
    refine partner_eq hs _ _ ?_ ?_
    · rw [hps, ← Nat.div_div_eq_div_mul, hPd]; omega
    · show (g.val * 4 + q'.val) * d + j.val = (g.val * 4 + q.val) * d + j.val + 2 ^ (s + 1)
      rw [hps, h1]; ring
  have hbit : ∀ q : Fin 4, q.val < 2 → (P q).val &&& 2 ^ (s + 1) = 0 := by
    intro q h0
    rw [and_two_pow_eq_zero_iff, hps, ← Nat.div_div_eq_div_mul, hPd]; omega
  have hst : ∀ q q' : Fin 4, q.val < 2 → q'.val = q.val + 2 →
      Network.apply (stage 12 (s + 1) w) (col S l) (P q)
        = (if w (P 0) then max (S (ix2 (P q) l)) (S (ix2 (P q') l)) else min (S (ix2 (P q) l)) (S (ix2 (P q') l)))
      ∧ Network.apply (stage 12 (s + 1) w) (col S l) (P q')
        = (if w (P 0) then min (S (ix2 (P q) l)) (S (ix2 (P q') l)) else max (S (ix2 (P q) l)) (S (ix2 (P q') l))) := by
    intro q q' h0 h1
    have := apply_stage hs w (col S l) (P q) (hbit q h0)
    rw [hhigh q q' h0 h1, hw q] at this
    exact this
  have a0 := hst 0 2 (by decide) rfl
  have a1 := hst 1 3 (by decide) rfl
  -- the four slices
  have r0 : quarter G d ![0, 0, 0, 0, 0] S h5 hs0 h3 (ix3 g j l) = S (ix2 (P 0) l) :=
    quarter_apply G d 0 0 S h5 hs0 h3 g j l _ (by decide) (by decide) (by show (g.val * 4 + 0) * d + j.val = _; ring)
  have r1 : quarter G d ![0, 0, 1, 0, 0] S h5 hs1 h3 (ix3 g j l) = S (ix2 (P 1) l) :=
    quarter_apply G d 0 1 S h5 hs1 h3 g j l _ (by decide) (by decide) (by show (g.val * 4 + 1) * d + j.val = _; ring)
  have r2 : quarter G d ![0, 1, 0, 0, 0] S h5 hs2 h3 (ix3 g j l) = S (ix2 (P 2) l) :=
    quarter_apply G d 1 0 S h5 hs2 h3 g j l _ (by decide) (by decide) (by show (g.val * 4 + 2) * d + j.val = _; ring)
  have r3 : quarter G d ![0, 1, 1, 0, 0] S h5 hs3 h3 (ix3 g j l) = S (ix2 (P 3) l) :=
    quarter_apply G d 1 1 S h5 hs3 h3 g j l _ (by decide) (by decide) (by show (g.val * 4 + 3) * d + j.val = _; ring)
  have lo := fun u v : FVec Ideal ⟨3, ![G, d, 128]⟩ .f32 => lower_apply up u v (ix3 g j l) _ (hPu 0)
  have hi' := fun u v : FVec Ideal ⟨3, ![G, d, 128]⟩ .f32 => upper_apply up u v (ix3 g j l) _ (hPu 0)
  have out : ∀ q : Fin 4, col (pass2 G d up S h5 hs0 hs1 hs2 hs3 h3 h4 hc hb) l (P q) = _ := fun q =>
    join4_apply G d
      ![lower up (lower up (quarter G d ![0, 0, 0, 0, 0] S h5 hs0 h3) (quarter G d ![0, 1, 0, 0, 0] S h5 hs2 h3))
          (lower up (quarter G d ![0, 0, 1, 0, 0] S h5 hs1 h3) (quarter G d ![0, 1, 1, 0, 0] S h5 hs3 h3)),
        upper up (lower up (quarter G d ![0, 0, 0, 0, 0] S h5 hs0 h3) (quarter G d ![0, 1, 0, 0, 0] S h5 hs2 h3))
          (lower up (quarter G d ![0, 0, 1, 0, 0] S h5 hs1 h3) (quarter G d ![0, 1, 1, 0, 0] S h5 hs3 h3)),
        lower up (upper up (quarter G d ![0, 0, 0, 0, 0] S h5 hs0 h3) (quarter G d ![0, 1, 0, 0, 0] S h5 hs2 h3))
          (upper up (quarter G d ![0, 0, 1, 0, 0] S h5 hs1 h3) (quarter G d ![0, 1, 1, 0, 0] S h5 hs3 h3)),
        upper up (upper up (quarter G d ![0, 0, 0, 0, 0] S h5 hs0 h3) (quarter G d ![0, 1, 0, 0, 0] S h5 hs2 h3))
          (upper up (quarter G d ![0, 0, 1, 0, 0] S h5 hs1 h3) (quarter G d ![0, 1, 1, 0, 0] S h5 hs3 h3))]
      h4 hc hb g q j l (P q) rfl
  have eg : i.val / d = g.val * 4 + i.val / d % 4 := by show _ = i.val / d / 4 * 4 + _; omega
  have hq : i.val / d % 4 = 0 ∨ i.val / d % 4 = 2 := by omega
  have hiP : ∀ q : Fin 4, i.val / d % 4 = q.val → i = P q := by
    intro q h0
    apply Fin.ext
    show i.val = (g.val * 4 + q.val) * d + j.val
    rw [← h0, ← eg, Nat.mul_comm]; exact hidm.symm
  rcases hq with hq | hq
  · rw [hiP 0 hq, hlow 0 1 rfl rfl, out 0, out 1, a0.1, a1.1]
    exact ⟨(lo _ _).trans (by rw [lo, lo, r0, r1, r2, r3]), (hi' _ _).trans (by rw [lo, lo, r0, r1, r2, r3])⟩
  · rw [hiP 2 hq, hlow 2 3 rfl rfl, out 2, out 3, a0.2, a1.2, hw 2]
    exact ⟨(lo _ _).trans (by rw [hi', hi', r0, r1, r2, r3]), (hi' _ _).trans (by rw [hi', hi', r0, r1, r2, r3])⟩

end Cert.KernelIdeal.Sorting

end
-- ==== Proof.Opened.lean ====
/-
  The kernel's body for one batch entry, as the chain of passes: what it stores is `body` of a block every lane of which is
  the sorting network's result on that lane's projections.
-/
module

public import proofs.«01_k».proof.Proof.Passes

@[expose] public section

noncomputable section

namespace Cert.KernelIdeal.Sorting

open Cert.KernelIdeal Cert.KernelIdeal.Gen Idealize.ShloMosaic Idealize.ShloMosaic.ValueIdx Idealize.ShloMosaic.SortNet
open Idealize.ShloMosaic.TcCoe

/-- Where a pass of level `k` puts the greater entry first: where bit `k` of the position is set. -/
def greaterFirst (k : Nat) : Fin (2 ^ 12) → Bool := fun i => decide (i.val &&& 2 ^ k = 0) == false

/-- The direction bits of a pass, read at an index: set where bit `k` of the block number is clear. -/
theorem dirBits_apply (G d : Nat) (k : BitVec 32) (dims) (h) (hdims : dims = [0]) (hG : G ≤ 4096) (hk : k.toNat < 32) (g : Fin G) (j : Fin d) (l : Fin 128) :
    dirBits G d k dims h (ix3 g j l) = if g.val / 2 ^ k.toNat % 2 = 0 then 1#1 else 0#1 := by
  subst hdims
  have hg : g.val < 4096 := lt_of_lt_of_le g.isLt hG
  show IntOp.cmpi .eq (IntOp.shrsi .vector (BitVec.ofNat 32 (0 * G + g.val)) k &&& 1#32) 0#32 = _
  have e1 : IntOp.shrsi .vector (BitVec.ofNat 32 (0 * G + g.val)) k = BitVec.ofNat 32 (g.val / 2 ^ k.toNat) := by
    unfold IntOp.shrsi
    rw [if_pos hk, Nat.zero_mul, Nat.zero_add, BitVec.sshiftRight', BitVec.sshiftRight_eq_of_msb_false]
    · apply BitVec.eq_of_toNat_eq
      rw [BitVec.toNat_ushiftRight, BitVec.toNat_ofNat, BitVec.toNat_ofNat, Nat.shiftRight_eq_div_pow]
      have := Nat.div_le_self g.val (2 ^ k.toNat)
      rw [Nat.mod_eq_of_lt (by omega), Nat.mod_eq_of_lt (by omega)]
    · rw [BitVec.msb_eq_decide, BitVec.toNat_ofNat]
      simp only [decide_eq_false_iff_not]
      omega
  rw [e1]
  have hq : g.val / 2 ^ k.toNat < 4096 := lt_of_le_of_lt (Nat.div_le_self _ _) hg
  generalize g.val / 2 ^ k.toNat = q at hq
  have e2 : BitVec.ofNat 32 q &&& 1#32 = BitVec.ofNat 32 (q % 2) := by
    apply BitVec.eq_of_toNat_eq
    rw [BitVec.toNat_and, BitVec.toNat_ofNat, BitVec.toNat_ofNat, BitVec.toNat_ofNat]
    have : q % 2 ^ 32 &&& 1 % 2 ^ 32 = q % 2 := by
      rw [Nat.mod_eq_of_lt (by omega : q < 2 ^ 32)]
      exact Nat.and_one_is_mod q
    omega
  rw [e2]
  rcases Nat.mod_two_eq_zero_or_one q with h | h <;> rw [h] <;> rfl

/-- The lanes' direction bits, read at an index. -/
theorem laneBits_apply (G d : Nat) (b : IVec S1x128 1) (h) (g : Fin G) (j : Fin d) (l : Fin 128) :
    laneBits G d b h (ix3 g j l) = b (ix2 (0 : Fin 1) l) := by
  unfold laneBits
  rw [shapeCast_self]
  refine (broadcastTo_apply _ h _ (ix3 (0 : Fin 1) (0 : Fin 1) l) ?_).trans ?_
  · intro a
    match a with
    | ⟨0, _⟩ => rfl
    | ⟨1, _⟩ => rfl
    | ⟨2, _⟩ => rfl
  · refine shapeCast_apply _ _ _ (ix2 (0 : Fin 1) l) ?_
    rw [Shape.rowMajor_val_two, Shape.rowMajor_val_three]
    show 0 * 128 + l.val = (0 * 1 + 0) * 128 + l.val
    simp

/-- Bit `k` of the block number is bit `k + n` of the position. -/
theorem greaterFirst_eq (i : Fin (2 ^ 12)) (q k n : Nat) (hq : i.val / 2 ^ n = q) :
    (if q / 2 ^ k % 2 = 0 then 1#1 else 0#1) = if greaterFirst (n + k) i then 0#1 else 1#1 := by
  have e : q / 2 ^ k = i.val / 2 ^ (n + k) := by rw [← hq, Nat.div_div_eq_div_mul, pow_add]
  unfold greaterFirst
  rw [e]
  by_cases h : i.val / 2 ^ (n + k) % 2 = 0
  · rw [if_pos h, decide_eq_true ((and_two_pow_eq_zero_iff _ _).2 h)]; rfl
  · rw [if_neg h, decide_eq_false (fun h' => h ((and_two_pow_eq_zero_iff _ _).1 h'))]; rfl

/-- A pass over two distances before the last level. -/
theorem col_pass2_dir (G d : Nat) (k : BitVec 32) (S : FVec Ideal Rows .f32) (dims) (h) (h5) (hs0) (hs1) (hs2) (hs3) (h3) (h4) (hc) (hb)
    (l : Fin 128) (hdims : dims = [0]) (hd : d = 2 ^ Nat.log2 d) (hG : G * 4 * d = 4096) (hs : Nat.log2 d + 1 < 12) (hk : k.toNat < 32) :
    col (pass2 G d (dirBits G d k dims h) S h5 hs0 hs1 hs2 hs3 h3 h4 hc hb) l
      = Network.apply (stage 12 (Nat.log2 d) (greaterFirst (Nat.log2 d + 2 + k.toNat)))
          (Network.apply (stage 12 (Nat.log2 d + 1) (greaterFirst (Nat.log2 d + 2 + k.toNat))) (col S l)) := by
  have hdpos : 0 < d := hd ▸ Nat.two_pow_pos _
  have hG' : G ≤ 4096 := by
    rw [← hG, Nat.mul_assoc]; exact Nat.le_mul_of_pos_right G (by omega)
  refine col_pass2 G d _ hs hd hG _ S h5 hs0 hs1 hs2 hs3 h3 h4 hc hb l _ fun g j i hg _ => ?_
  rw [dirBits_apply G d k dims h hdims hG' hk]
  refine greaterFirst_eq i _ _ _ ?_
  have e : 2 ^ (Nat.log2 d + 2) = d * 4 := by rw [pow_add, ← hd]; rfl
  rw [← hg, e, Nat.div_div_eq_div_mul]

/-- A pass over two distances at the last level. -/
theorem col_pass2_lane (G d : Nat) (b : IVec S1x128 1) (S : FVec Ideal Rows .f32) (h) (h5) (hs0) (hs1) (hs2) (hs3) (h3) (h4) (hc) (hb)
    (l : Fin 128) (hd : d = 2 ^ Nat.log2 d) (hG : G * 4 * d = 4096) (hs : Nat.log2 d + 1 < 12) :
    col (pass2 G d (laneBits G d b h) S h5 hs0 hs1 hs2 hs3 h3 h4 hc hb) l
      = Network.apply (stage 12 (Nat.log2 d) fun _ => decide (b (ix2 (0 : Fin 1) l) = 0#1))
          (Network.apply (stage 12 (Nat.log2 d + 1) fun _ => decide (b (ix2 (0 : Fin 1) l) = 0#1)) (col S l)) := by
  refine col_pass2 G d _ hs hd hG _ S h5 hs0 hs1 hs2 hs3 h3 h4 hc hb l _ fun g j i hg _ => ?_
  rw [laneBits_apply]
  rcases BitVec.eq_zero_or_eq_one (b (ix2 (0 : Fin 1) l)) with e | e <;> rw [e] <;> rfl

/-- A pass over one distance. -/
theorem col_pass1_dir (G d : Nat) (k : BitVec 32) (S : FVec Ideal Rows .f32) (dims) (h) (h4) (hs0) (hs1) (h3) (hu) (hc) (hb)
    (l : Fin 128) (hdims : dims = [0]) (hd : d = 2 ^ Nat.log2 d) (hG : G * 2 * d = 4096) (hs : Nat.log2 d < 12) (hk : k.toNat < 32) :
    col (pass1 G d (dirBits G d k dims h) S h4 hs0 hs1 h3 hu hc hb) l
      = Network.apply (stage 12 (Nat.log2 d) (greaterFirst (Nat.log2 d + 1 + k.toNat))) (col S l) := by
  have hdpos : 0 < d := hd ▸ Nat.two_pow_pos _
  have hG' : G ≤ 4096 := by
    rw [← hG, Nat.mul_assoc]; exact Nat.le_mul_of_pos_right G (by omega)
  refine col_pass1 G d _ hs hd hG _ S h4 hs0 hs1 h3 hu hc hb l _ fun g j i hg _ => ?_
  rw [dirBits_apply G d k dims h hdims hG' hk]
  refine greaterFirst_eq i _ _ _ ?_
  have e : 2 ^ (Nat.log2 d + 1) = d * 2 := by rw [pow_add, ← hd]; rfl
  rw [← hg, e, Nat.div_div_eq_div_mul]

/-- The first eleven levels of the network: runs of 2048 positions, the first ascending and the second descending. -/
def firstLevels : Network (2 ^ 12) :=
  (List.range 11).flatMap fun l => (List.range (l + 1)).reverse.flatMap fun s => stage 12 s (greaterFirst (l + 1))

/-- The last level of the network, in one direction throughout. -/
def lastLevel (w : Fin (2 ^ 12) → Bool) : Network (2 ^ 12) := (List.range 12).reverse.flatMap fun s => stage 12 s w

/-- The distances of the passes are powers of two. -/
theorem log2_values : Nat.log2 1 = 0 ∧ Nat.log2 2 = 1 ∧ Nat.log2 4 = 2 ∧ Nat.log2 8 = 3 ∧ Nat.log2 16 = 4 ∧ Nat.log2 32 = 5 ∧
    Nat.log2 64 = 6 ∧ Nat.log2 128 = 7 ∧ Nat.log2 256 = 8 ∧ Nat.log2 512 = 9 ∧ Nat.log2 1024 = 10 := by decide

theorem offsets3 : (![0, 0, 0] : Fin 3 → Nat) = fun _ => 0 := funext fun a => by fin_cases a <;> rfl

theorem offsets2 : (![0, 0] : Fin 2 → Nat) = fun _ => 0 := funext fun a => by fin_cases a <;> rfl

/-- Rewriting the operands of a concatenation of two. -/
theorem concatenate_congr2 {s s' t : Shape} {a : Fin t.rank} {x0 y0 : FVec Ideal s .f32} {x1 y1 : FVec Ideal s' .f32}
    {h : Shape.Concatenates [s, s'] t a} (h0 : x0 = y0) (h1 : x1 = y1) :
    concatenate t a [⟨s, x0⟩, ⟨s', x1⟩] h = concatenate t a [⟨s, y0⟩, ⟨s', y1⟩] h := by subst h0 h1; rfl

/-- Rewriting the operands of a concatenation of four. -/
theorem concatenate_congr4 {s t : Shape} {a : Fin t.rank} {x0 x1 x2 x3 y0 y1 y2 y3 : FVec Ideal s .f32}
    {h : Shape.Concatenates [s, s, s, s] t a} (h0 : x0 = y0) (h1 : x1 = y1) (h2 : x2 = y2) (h3 : x3 = y3) :
    concatenate t a [⟨s, x0⟩, ⟨s, x1⟩, ⟨s, x2⟩, ⟨s, x3⟩] h = concatenate t a [⟨s, y0⟩, ⟨s, y1⟩, ⟨s, y2⟩, ⟨s, y3⟩] h := by
  subst h0 h1 h2 h3; rfl

attribute [local congr] concatenate_congr2 concatenate_congr4

set_option maxRecDepth 16384 in
/-- What the body leaves in its output block, from the blocks it reads: `body` of a block whose every lane is the network's
    result on the lane of projections, the last level running the way the lane's direction bit says. -/
theorem out_opened (c : Dev nD) (i : grid0.Coords) (a1 : Memref sig .tc .vmem S1x4096x128 .f32) (h1 : a1.IsWhole)
    (a2 : Memref sig .tc .vmem S128x128 .f32) (h2 : a2.IsWhole) (a3 : Memref sig .tc .vmem S1024x128 .f32) (h3 : a3.IsWhole)
    (a4 : Memref sig .tc .vmem S1024x4 .f32) (h4 : a4.IsWhole) (a5 : Memref sig .tc .vmem S1024x4 .f32) (h5 : a5.IsWhole)
    (a6 : Memref sig .tc .vmem S1x128x1024 .f32) (h6 : a6.IsWhole) (a7 : Memref sig .tc .vmem S8x128 .f32) (h7 : a7.IsWhole)
    (x0 : Vec Ideal S1x4096x128 .f32) (x1 : Vec Ideal S128x128 .f32) (x2 : Vec Ideal S1024x128 .f32) (x3 x4 : Vec Ideal S1024x4 .f32) :
    ∃ T : FVec Ideal Rows .f32,
      out0_A_5 c i a1 h1 a2 h2 a3 h3 a4 h4 a5 h5 a6 h6 a7 h7 x0 x1 x2 x3 x4 = body x1 x2 x3 x4 T ∧
      ∀ l, col T l = Network.apply (lastLevel fun _ => decide (k0_pay4 x1 x2 (ix2 (0 : Fin 1) l) = 0#1))
        (Network.apply firstLevels (col (points x0 x1) l)) := by
  unfold out0_A_5
  rw [View.read_writes_eq_canon _ _ _ (cover0_A_5 c i a1 h1 a2 h2 a3 h3 a4 h4 a5 h5 a6 h6 a7 h7 x0 x1 x2 x3 x4)]
  unfold kernelRun0_A
  dsimp only
  rw [View.canon_unit_zero offsets3]
  -- the body's named values, opened
  simp only [k0_pay1, k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243,
    k0_pay244, k0_pay245, k0_pay246, k0_pay247,
    kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, kernelRun0_A.sl.r_43, kernelRun0_A.sl.r_44,
    kernelRun0_A.sl.r_45, kernelRun0_A.sl.r_46, kernelRun0_A.sl.r_47, kernelRun0_A.sl.r_48, kernelRun0_A.sl.r_49,
    kernelRun0_A.sl.r_50, kernelRun0_A.sl.r_51, kernelRun0_A.sl.r_52, kernelRun0_A.sl.r_53, kernelRun0_A.sl.r_54,
    kernelRun0_A.sl.r_55, kernelRun0_A.sl.r_56, kernelRun0_A.sl.r_57, kernelRun0_A.sl.r_58, kernelRun0_A.sl.r_59,
    kernelRun0_A.sl.r_60, kernelRun0_A.sl.r_61, kernelRun0_A.sl.r_62, kernelRun0_A.sl.r_63, kernelRun0_A.sl.r_64,
    kernelRun0_A.sl.r_65, kernelRun0_A.sl.r_66, kernelRun0_A.sl.r_67, kernelRun0_A.sl.r_68, kernelRun0_A.sl.r_69,
    kernelRun0_A.sl.r_70, kernelRun0_A.sl.r_71, kernelRun0_A.sl.r_72, kernelRun0_A.sl.r_73, kernelRun0_A.sl.r_74,
    kernelRun0_A.sl.r_75, kernelRun0_A.sl.r_76, kernelRun0_A.sl.r_77, kernelRun0_A.sl.r_78, kernelRun0_A.sl.r_79,
    kernelRun0_A.sl.r_80, kernelRun0_A.sl.r_81, kernelRun0_A.sl.r_82, kernelRun0_A.sl.r_83, kernelRun0_A.sl.r_84,
    kernelRun0_A.sl.r_85, kernelRun0_A.sl.r_86, kernelRun0_A.sl.r_87, kernelRun0_A.sl.r_88, kernelRun0_A.sl.r_89,
    kernelRun0_A.sl.r_90, kernelRun0_A.sl.r_91, kernelRun0_A.sl.r_92, kernelRun0_A.sl.r_93, kernelRun0_A.sl.r_94,
    kernelRun0_A.sl.r_95, kernelRun0_A.sl.r_96, kernelRun0_A.sl.r_97, kernelRun0_A.sl.r_98, kernelRun0_A.sl.r_99,
    kernelRun0_A.sl.r_100, kernelRun0_A.sl.r_101, kernelRun0_A.sl.r_102, kernelRun0_A.sl.r_103, kernelRun0_A.sl.v540,
    kernelRun0_A.sl.v1038]
  simp only [View.readAt_eq_ld, h1.read_unread, h2.read_unread, h3.read_unread, h4.read_unread, h5.read_unread,
    View.ld_unit_zero (S := S1x4096x128) offsets3, View.ld_unit_zero (S := S128x128) offsets2, View.ld_unit_zero (S := S1024x128) offsets2]
  -- and folded into passes
  simp only [← quarter.eq_1, ← half.eq_1, ← lower.eq_1, ← upper.eq_1, ← join4.eq_1, ← join2.eq_1, ← dirBits.eq_1, ← laneBits.eq_1,
    ← points.eq_1]
  simp only [← pass2.eq_1, ← pass1.eq_1]
  simp only [← rounded.eq_1, ← tieNext.eq_1, ← tiePrev.eq_1, ← summand.eq_1, ← mix.eq_1, ← untie.eq_1, ← body.eq_1]
  refine ⟨_, rfl, fun l => ?_⟩
  simp (disch := decide) only [col_pass2_dir, col_pass2_lane, col_pass1_dir]
  simp only [firstLevels, lastLevel, List.range_succ, List.range_zero, List.nil_append, List.cons_append, List.reverse_append,
    List.reverse_cons, List.reverse_nil, List.flatMap_cons, List.flatMap_nil, List.append_nil, List.flatMap_append, Network.apply_append,
    log2_values, Nat.reduceAdd, BitVec.reduceToNat]

end Cert.KernelIdeal.Sorting

end
-- ==== Proof.Sorted.lean ====
/-
  The kernel's network sorts: up where the last level's direction is "lesser first", down where it is "greater first".
-/
module

public import proofs.«01_k».proof.Proof.Opened
public import proofs.«01_k».proof.Proof.Spec

@[expose] public section

noncomputable section

namespace Cert.KernelIdeal.Sorting

open Idealize.ShloMosaic Idealize.ShloMosaic.SortNet Cert.Embedding

/-- A position of the lower half, as a position of chunk 0. -/
theorem chunk_lower (hp : 11 ≤ 12) (i : Fin (2 ^ 12)) (h : i.val < 2 ^ 11) (h0 : 0 < 2 ^ (12 - 11)) :
    chunkPos hp ⟨0, h0⟩ ⟨i.val, h⟩ = i := by
  apply Fin.ext
  show 0 * 2 ^ 11 + i.val = i.val
  rw [Nat.zero_mul, Nat.zero_add]

/-- A position of the upper half, as a position of chunk 1. -/
theorem chunk_upper (hp : 11 ≤ 12) (i : Fin (2 ^ 12)) (hi : 2 ^ 11 ≤ i.val) (h : i.val - 2 ^ 11 < 2 ^ 11) (h1 : 1 < 2 ^ (12 - 11)) :
    chunkPos hp ⟨1, h1⟩ ⟨i.val - 2 ^ 11, h⟩ = i := by
  apply Fin.ext
  show 1 * 2 ^ 11 + (i.val - 2 ^ 11) = i.val
  rw [Nat.one_mul, Nat.add_sub_cancel' hi]

/-- After the first eleven levels a lane's lower half increases and its upper half decreases. -/
theorem upDown_firstLevels (v : Fin (2 ^ 12) → EReal) : DescAsc (Network.apply firstLevels v) := by
  have hp : 11 ≤ 12 := by omega
  have hz : 0 < 2 ^ (12 - 11) := by norm_num
  have ho : 1 < 2 ^ (12 - 11) := by norm_num
  have h0 := (sortNet_levels 12 false v 11 hp ⟨0, hz⟩).2 rfl
  have h1 := (sortNet_levels 12 false v 11 hp ⟨1, ho⟩).1 rfl
  have e : firstLevels = levelsNet 12 false 11 := rfl
  rw [e]
  generalize Network.apply (levelsNet 12 false 11) v = u at h0 h1
  have htop : ∀ k : Fin (2 ^ 12), k.val - 2 ^ 11 < 2 ^ 11 := fun k => by
    have := k.isLt
    have h2 : (2 : ℕ) ^ 12 = 2 ^ 11 + 2 ^ 11 := by norm_num
    clear h0 h1
    omega
  refine ⟨2 ^ 11, Or.inr ⟨fun i j hij hj => ?_, fun i j hij hi => ?_⟩⟩
  · have hi : i.val < 2 ^ 11 := lt_of_le_of_lt hij hj
    have h := h0 (a := ⟨i.val, hi⟩) (b := ⟨j.val, hj⟩) hij
    simp only [chunk_lower] at h
    exact h
  · have hj : 2 ^ 11 ≤ j.val := le_trans hi hij
    have h := h1 (a := ⟨i.val - 2 ^ 11, htop i⟩) (b := ⟨j.val - 2 ^ 11, htop j⟩) (Nat.sub_le_sub_right hij _)
    simp only [chunk_upper hp i hi, chunk_upper hp j hj] at h
    exact h

/-- With "lesser first" at the last level the network increases. -/
theorem monotone_network (v : Fin (2 ^ 12) → EReal) :
    Monotone (Network.apply (lastLevel fun _ => false) (Network.apply firstLevels v)) :=
  mergeAscNet_apply_monotone 12 _ (upDown_firstLevels v)

/-- With "greater first" at the last level it decreases. -/
theorem antitone_network (v : Fin (2 ^ 12) → EReal) :
    Antitone (Network.apply (lastLevel fun _ => true) (Network.apply firstLevels v)) :=
  mergeDescNet_apply_antitone 12 _ (upDown_firstLevels v)

/-- On real entries the network sorts, upwards or downwards as the last level says. -/
theorem network_real (u : Fin 4096 → ℝ) (w : Bool) (r : Fin 4096) :
    Network.apply (lastLevel fun _ => w) (Network.apply firstLevels fun i => ((u i : ℝ) : EReal)) r
      = ((sorted u (if w then r.rev else r) : ℝ) : EReal) := by
  obtain ⟨σ, hσ⟩ := Network.exists_perm (firstLevels ++ lastLevel fun _ => w) fun i => ((u i : ℝ) : EReal)
  rw [Network.apply_append] at hσ
  have hr := congrFun hσ r
  rw [hr]
  cases w
  · have h := monotone_network fun i => ((u i : ℝ) : EReal)
    rw [hσ] at h
    have hm : Monotone (u ∘ σ) := fun i j hij => EReal.coe_le_coe_iff.mp (h hij)
    exact congrArg (fun x : ℝ => (x : EReal)) (congrFun (eq_sorted u σ hm) r)
  · have h := antitone_network fun i => ((u i : ℝ) : EReal)
    rw [hσ] at h
    have hm : Antitone (u ∘ σ) := fun i j hij => EReal.coe_le_coe_iff.mp (h hij)
    exact congrArg (fun x : ℝ => (x : EReal)) (congrFun (eq_sorted_rev u σ hm) r)

end Cert.KernelIdeal.Sorting

end
-- ==== Proof.KernelValue.lean ====
/-
  The kernel's result array at real inputs: every entry is the embedding's entry.
-/
module

public import proofs.«01_k».proof.Proof.Tables
public import proofs.«01_k».proof.Proof.Body
public import proofs.«01_k».proof.Proof.Opened
public import proofs.«01_k».proof.Proof.Sorted

@[expose] public section

noncomputable section

namespace Cert.Embedding

open Cert.KernelIdeal Cert.KernelIdeal.Gen Cert.KernelIdeal.Sorting Idealize.ShloMosaic Idealize.ShloMosaic.ValueIdx Idealize.ShloMosaic.TcCoe
open Idealize.ShloMosaic.SortNet

variable (m : (ℓ : Loc nD τ sig) → Buf (Elt Ideal) ℓ) (c : Dev nD)

/-- Where the blocks lie: the points and the result move one batch entry per grid point, the others stay. -/
theorem block_index : ∀ t : Fin grid0.N, (win0_0.index t 0 = t.val ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0 ∧ win0_5.index t 2 = 0) := by decide +kernel

theorem flushes : ∀ t : Fin cfg0.N, (cfg0.win 5).flush t = true := by decide +kernel

theorem block_points (t : Fin cfg0.N) (b : Fin 16) (hb : b.val = t.val) (i : Fin 4096) (k : Fin 128) :
    (iblk m c 0 t : Vec Ideal S1x4096x128 .f32) (ix3 (0 : Fin 1) i k) = m ((c : Thread nD τ).loc main_arg0) (ix3 b i k) := by
  obtain ⟨⟨e0, e1, e2⟩, _⟩ := block_index t
  show V m c main_arg0 (((cfg0.win 0).blk t).view.emb (ix3 (0 : Fin 1) i k)) = _
  rw [V_main_arg0]
  congr 1
  funext a
  apply Fin.ext
  match a with
  | ⟨0, _⟩ => show win0_0.index t 0 * 1 + 1 * 0 = b.val; omega
  | ⟨1, _⟩ => show win0_0.index t 1 * 4096 + 1 * i.val = i.val; omega
  | ⟨2, _⟩ => show win0_0.index t 2 * 128 + 1 * k.val = k.val; omega

theorem block_directions (t : Fin cfg0.N) (l : Fin 128) (k : Fin 128) :
    (iblk m c 1 t : Vec Ideal S128x128 .f32) (ix2 l k) = m ((c : Thread nD τ).loc main_arg1) (ix2 l k) := by
  obtain ⟨_, ⟨e0, e1⟩, _⟩ := block_index t
  show V m c main_arg1 (((cfg0.win 1).blk t).view.emb (ix2 l k)) = _
  rw [V_main_arg1]
  congr 1
  funext a
  apply Fin.ext
  match a with
  | ⟨0, _⟩ => show win0_1.index t 0 * 128 + 1 * l.val = l.val; omega
  | ⟨1, _⟩ => show win0_1.index t 1 * 128 + 1 * k.val = k.val; omega

theorem block_references (t : Fin cfg0.N) (q : Fin 1024) (k : Fin 128) :
    (iblk m c 2 t : Vec Ideal S1024x128 .f32) (ix2 q k) = m ((c : Thread nD τ).loc main_arg2) (ix2 q k) := by
  obtain ⟨_, _, ⟨e0, e1⟩, _⟩ := block_index t
  show V m c main_arg2 (((cfg0.win 2).blk t).view.emb (ix2 q k)) = _
  rw [V_main_arg2]
  congr 1
  funext a
  apply Fin.ext
  match a with
  | ⟨0, _⟩ => show win0_2.index t 0 * 1024 + 1 * q.val = q.val; omega
  | ⟨1, _⟩ => show win0_2.index t 1 * 128 + 1 * k.val = k.val; omega

theorem block_up (t : Fin cfg0.N) (q : Fin 1024) (k : Fin 4) :
    (iblk m c 3 t : Vec Ideal S1024x4 .f32) (ix2 q k) = upWeights leftWords shares (ix2 q k) := by
  obtain ⟨_, _, _, ⟨e0, e1⟩, _⟩ := block_index t
  rw [← V_up m c]
  show V m c main_call0_v44 (((cfg0.win 3).blk t).view.emb (ix2 q k)) = _
  congr 1
  funext a
  apply Fin.ext
  match a with
  | ⟨0, _⟩ => show win0_3.index t 0 * 1024 + 1 * q.val = q.val; omega
  | ⟨1, _⟩ => show win0_3.index t 1 * 4 + 1 * k.val = k.val; omega

theorem block_down (t : Fin cfg0.N) (q : Fin 1024) (k : Fin 4) :
    (iblk m c 4 t : Vec Ideal S1024x4 .f32) (ix2 q k) = downWeights leftWords shares (ix2 q k) := by
  obtain ⟨_, _, _, _, ⟨e0, e1⟩, _⟩ := block_index t
  rw [← V_down m c]
  show V m c main_call0_v67 (((cfg0.win 4).blk t).view.emb (ix2 q k)) = _
  congr 1
  funext a
  apply Fin.ext
  match a with
  | ⟨0, _⟩ => show win0_4.index t 0 * 1024 + 1 * q.val = q.val; omega
  | ⟨1, _⟩ => show win0_4.index t 1 * 4 + 1 * k.val = k.val; omega

/-- The kernel's result array after the run, at real points, directions of positive or infinite length and strictly increasing reference
    points on the diagonal: at batch entry `b`, direction `l` and reference point `q`, the embedding's entry. -/
theorem kernel_value (X : Fin 16 → Fin 4096 → Fin 128 → ℝ) (θ : Fin 128 → Fin 128 → ℝ) (r : Fin 1024 → ℝ)
    (h0 : ∀ b i k, m ((c : Thread nD τ).loc main_arg0) (ix3 b i k) = ((X b i k : ℝ) : EReal))
    (hd : Directions (m ((c : Thread nD τ).loc main_arg1)) θ)
    (h2 : ∀ q k, m ((c : Thread nD τ).loc main_arg2) (ix2 q k) = ((r q : ℝ) : EReal))
    (hr : StrictMono r) (b : Fin 16) (l : Fin 128) (q : Fin 1024) :
    (dats m 0 c).arrAt 5 cfg0.N (ix3 b l q) = ((entry (X b) θ r l q : ℝ) : EReal) := by
  let t : Fin cfg0.N := ⟨b.val, by show b.val < 16; exact b.isLt⟩
  obtain ⟨_, _, _, _, _, e0, e1, e2⟩ := block_index t
  have hemb : ((cfg0.win 5).blk t).view.emb (ix3 (0 : Fin 1) l q) = ix3 b l q := by
    funext a
    apply Fin.ext
    match a with
    | ⟨0, _⟩ => show win0_5.index t 0 * 1 + 1 * 0 = b.val; rw [e0]; show b.val * 1 + 1 * 0 = b.val; omega
    | ⟨1, _⟩ => show win0_5.index t 1 * 128 + 1 * l.val = l.val; omega
    | ⟨2, _⟩ => show win0_5.index t 2 * 1024 + 1 * q.val = q.val; omega
  have e := congrFun (Cert.KernelIdeal.Value.blocks5 m c t (flushes t)) (ix3 (0 : Fin 1) l q)
  rw [Cert.KernelIdeal.Value.flushed5_A] at e
  obtain ⟨T, hT, hcol⟩ := out_opened c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) (iblk m c 0 t) (iblk m c 1 t) (iblk m c 2 t) (iblk m c 3 t) (iblk m c 4 t)
  rw [hT] at e
  have hd' : Directions (iblk m c 1 t : Vec Ideal S128x128 .f32) θ := by
    intro l
    simp only [block_directions m c t]
    exact hd l
  have h2' : ∀ q k, (iblk m c 2 t : Vec Ideal S1024x128 .f32) (ix2 q k) = ((r q : ℝ) : EReal) := fun q k => (block_references m c t q k).trans (h2 q k)
  have h0' : ∀ i k, (iblk m c 0 t : Vec Ideal S1x4096x128 .f32) (ix3 (0 : Fin 1) i k) = ((X b i k : ℝ) : EReal) :=
    fun i k => (block_points m c t b rfl i k).trans (h0 b i k)
  have hval := body_apply (iblk m c 1 t) (iblk m c 2 t) (iblk m c 3 t) (iblk m c 4 t) T θ r (X b) hd' h2' hr
    (fun q k => (block_up m c t q k).trans (upWeights_apply leftWords shares leftWords_apply shares_apply q k))
    (fun q k => (block_down m c t q k).trans (downWeights_apply leftWords shares leftWords_apply shares_apply q k)) l (fun i => by
      have hp : col (points (iblk m c 0 t) (iblk m c 1 t)) l = fun i => ((proj θ (X b i) l : ℝ) : EReal) :=
        funext fun i => points_apply (iblk m c 1 t) θ hd' (iblk m c 0 t) (X b) h0' i l
      have h := congrFun (hcol l) i
      rw [hp] at h
      replace h := h.trans (network_real (fun i => proj θ (X b i) l) _ i)
      rw [laneBit_apply (iblk m c 1 t) (iblk m c 2 t) θ r hd' h2' (hr (by decide)) l] at h
      refine Eq.trans h ?_
      unfold lane
      have hi := i.isLt
      by_cases hs : 0 ≤ slope θ l
      · rw [if_pos hs, if_pos hs, dif_pos hi]; rfl
      · rw [if_neg hs, if_neg hs, dif_pos (by omega)]
        congr 2
        apply Fin.ext
        show (Fin.rev i).val = 4095 - i.val
        rw [Fin.val_rev]; omega) q
  refine Eq.trans ?_ (e.trans (Eq.trans ?_ hval))
  · show _ = (dats m 0 c).arrAt 5 cfg0.N (((cfg0.win 5).blk t).view.emb (ix3 (0 : Fin 1) l q))
    rw [hemb]
  · rfl

end Cert.Embedding

end
-- ==== Proof.Order.lean ====
/-
  The reference's two sorts at real inputs: the sort of the projections, and the positions that sort the reference points'
  projections.
-/
module

public import proofs.«01_k».proof.Proof.Spec
public import proofs.«01_k».proof.Proof.Gen.ReferenceIdeal
public import Idealize.ShloMosaic.Lib.SortFacts
public import Idealize.ShloMosaic.Lib.ValueIdx
public import Idealize.ShloMosaic.Lib.IdealHost
public import Idealize.ShloMosaic.Lib.Routing.OpsSearch
public import Mathlib.Order.Fin.Basic

@[expose] public section

noncomputable section

namespace Cert.Embedding

open Idealize.ShloMosaic Idealize.ShloMosaic.ValueIdx Idealize.ShloMosaic.Routing

/-! ## The positions that sort a vector -/

/-- A list no two of whose members are out of order stays as it is. -/
theorem stableSort_of_ordered {ι : Type} (before : ι → ι → Bool) : ∀ l : List ι, l.Pairwise (fun a b => before b a = false) → stableSort before l = l
  | [], _ => rfl
  | a :: l, h => by
    obtain ⟨h1, h2⟩ := List.pairwise_cons.1 h
    unfold stableSort
    rw [stableSort_of_ordered before l h2]
    cases l with
    | nil => rfl
    | cons b l =>
      unfold insertBefore
      rw [h1 b (List.mem_cons_self ..)]
      rfl

/-- Where nothing is out of order, sorting moves nothing. -/
theorem sortedFrom_of_ordered {n : ℕ} (before : Fin n → Fin n → Bool) (h : ∀ i j, i < j → before j i = false) (k : Fin n) :
    sortedFrom before k = k := by
  have e : sortPositions n before = List.finRange n :=
    stableSort_of_ordered before _ ((List.pairwise_lt_finRange n).imp fun {a b} hab => h a b hab)
  unfold sortedFrom
  rw [List.get_of_eq e]
  simp

/-- A position sorted by a real key: never before an earlier place's. -/
theorem sortedFrom_key {n : ℕ} (f : Fin n → ℝ) (before : Fin n → Fin n → Bool) (hb : ∀ a b, before a b = true ↔ f a < f b)
    (i j : Fin n) (hij : i < j) : f (sortedFrom before i) ≤ f (sortedFrom before j) := by
  have hf : ∀ a b, before a b = false ↔ f b ≤ f a := fun a b => by
    rw [← not_lt, ← hb a b]; simp
  exact (hf _ _).1 (sortedFrom_noInversion before before (fun a b h => (hf b a).2 ((hb a b).1 h).le) (fun _ _ h => h)
    (fun a b c h1 h2 => (hf a c).2 (((hf b c).1 h2).trans ((hf a b).1 h1))) i j hij)

/-- Sorting by a key that strictly decreases reverses. -/
theorem sortedFrom_reversed {n : ℕ} (f : Fin n → ℝ) (hf : StrictAnti f) (before : Fin n → Fin n → Bool)
    (hb : ∀ a b, before a b = true ↔ f a < f b) (k : Fin n) : sortedFrom before k = k.rev := by
  have hs : StrictMono (sortedFrom before ∘ Fin.rev) := fun i j hij => by
    have h := sortedFrom_key f before hb j.rev i.rev (Fin.rev_lt_rev.2 hij)
    have h' : sortedFrom before i.rev ≤ sortedFrom before j.rev := by
      by_contra hc
      exact absurd (hf (not_le.1 hc)) (not_lt.2 h)
    refine lt_of_le_of_ne h' fun e => ?_
    exact hij.ne (Fin.rev_injective (sortedFrom_injective before e))
  have e : sortedFrom before ∘ Fin.rev = id := funext fun i => le_antisymm hs.apply_le hs.le_apply
  have := congrFun e k.rev
  simpa using this

/-- A real key's sorted positions, read: the key in increasing order. -/
theorem sortedFrom_sorted {n : ℕ} (f : Fin n → ℝ) (before : Fin n → Fin n → Bool) (hb : ∀ a b, before a b = true ↔ f a < f b) (k : Fin n) :
    f (sortedFrom before k) = sorted f k := by
  let σ : Equiv.Perm (Fin n) := Equiv.ofBijective (sortedFrom before) ⟨sortedFrom_injective before, sortedFrom_surjective before⟩
  refine congrFun (eq_sorted f σ fun i j hij => ?_) k
  rcases eq_or_lt_of_le hij with h | h
  · rw [h]
  · exact sortedFrom_key f before hb i j h

/-! ## The comparators -/

/-- A real written as the comparators read it: zero for either zero, itself otherwise. -/
theorem canonical (x : ℝ) : Scalar.select (FloatOps.cmpf (F := Ideal) (φ := .f32) .une ((x : EReal)) ((x : EReal))) (FloatOps.ofBits (F := Ideal) .f32 0x7FC00000#32)
    (Scalar.select (FloatOps.cmpf (F := Ideal) (φ := .f32) .oeq ((x : EReal)) (FloatOps.ofBits (F := Ideal) .f32 0x00000000#32)) (FloatOps.ofBits (F := Ideal) .f32 0x00000000#32)
      ((x : EReal))) = (x : EReal) := by
  have h1 : FloatOps.cmpf (F := Ideal) (φ := .f32) .une ((x : EReal)) ((x : EReal)) = 0#1 := by
    simp [FloatOps.cmpf, Ideal.cmp]
  have h2 : FloatOps.ofBits (F := Ideal) .f32 0x00000000#32 = (0 : EReal) := Ideal.ofBits_zero_f32
  rw [h1, h2, select_zero]
  by_cases hx : x = 0
  · subst hx
    have h3 : FloatOps.cmpf (F := Ideal) (φ := .f32) .oeq (((0 : ℝ) : EReal)) (0 : EReal) = 1#1 := by
      simp [FloatOps.cmpf, Ideal.cmp]
    rw [h3, select_one]; rfl
  · have h3 : FloatOps.cmpf (F := Ideal) (φ := .f32) .oeq ((x : EReal)) (0 : EReal) = 0#1 := by
      simp [FloatOps.cmpf, Ideal.cmp, hx]
    rw [h3, select_zero]

/-- Reals compared. -/
theorem less (x y : ℝ) : (FloatOps.cmpfTotal (F := Ideal) (φ := .f32) .lt ((x : EReal)) ((y : EReal)) == 1#1) = true ↔ x < y := by
  rw [beq_iff_eq, Ideal.cmpfTotal_def]
  by_cases h : x < y <;> simp [Ideal.cmp, CmpDirection.ordered, h]

theorem comparator_real (x y : ℝ) : (Cert.ReferenceIdeal.comparator_f32_d1 (F := Ideal) ((x : EReal)) ((y : EReal)) == 1#1) = true ↔ x < y := by
  have e : Cert.ReferenceIdeal.comparator_f32_d1 (F := Ideal) ((x : EReal)) ((y : EReal)) = FloatOps.cmpfTotal (F := Ideal) (φ := .f32) .lt ((x : EReal)) ((y : EReal)) :=
    congrArg₂ (FloatOps.cmpfTotal (F := Ideal) (φ := .f32) .lt) (canonical x) (canonical y)
  rw [e]; exact less x y

theorem comparator_pair_real (x y : ℝ) (i j : BitVec 32) :
    (Cert.ReferenceIdeal.comparator_f32_i32_d1 (F := Ideal) (((x : EReal)), i) (((y : EReal)), j) == 1#1) = true ↔ x < y := by
  have e : Cert.ReferenceIdeal.comparator_f32_i32_d1 (F := Ideal) (((x : EReal)), i) (((y : EReal)), j) = FloatOps.cmpfTotal (F := Ideal) (φ := .f32) .lt ((x : EReal)) ((y : EReal)) :=
    congrArg₂ (FloatOps.cmpfTotal (F := Ideal) (φ := .f32) .lt) (canonical x) (canonical y)
  rw [e]; exact less x y

/-! ## The sorts along the middle axis -/

theorem along_middle {A N C : ℕ} (a : Fin A) (p k : Fin N) (c : Fin C) :
    (ix3 a p c : (shape3 A N C).Idx).along (1 : Fin 3) k = ix3 a k c := by
  funext b
  match b with
  | ⟨0, _⟩ => rfl
  | ⟨1, _⟩ => rfl
  | ⟨2, _⟩ => rfl

/-- An array of reals sorted along its middle axis. -/
theorem sort_middle {A N C : ℕ} (x : FVec Ideal (shape3 A N C) .f32) (a : Fin A) (c : Fin C) (f : Fin N → ℝ)
    (hx : ∀ k, x (ix3 a k c) = ((f k : ℝ) : EReal)) (p : Fin N) :
    Host.sort (shape3 A N C) 1 (Cert.ReferenceIdeal.comparator_f32_d1 (F := Ideal)) x (ix3 a p c) = ((sorted f p : ℝ) : EReal) := by
  have hb : ∀ k k' : Fin N, (Cert.ReferenceIdeal.comparator_f32_d1 (F := Ideal) (x ((ix3 a p c : (shape3 A N C).Idx).along (1 : Fin 3) k))
      (x ((ix3 a p c : (shape3 A N C).Idx).along (1 : Fin 3) k')) == 1#1) = true ↔ f k < f k' := fun k k' => by
    rw [along_middle, along_middle, hx, hx]; exact comparator_real _ _
  rw [← sortedFrom_sorted f _ hb p, ← hx]
  exact congrArg x (along_middle a p _ c)

/-- The positions that sort an array of reals along its middle axis. -/
theorem argsort_middle {A N C : ℕ} (x : FVec Ideal (shape3 A N C) .f32) (y : IVec (shape3 A N C) 32) (a : Fin A) (c : Fin C) (f : Fin N → ℝ)
    (hx : ∀ k, x (ix3 a k c) = ((f k : ℝ) : EReal)) (p : Fin N) :
    ∃ before : Fin N → Fin N → Bool, (∀ k k', before k k' = true ↔ f k < f k') ∧
      (Host.sort2 (shape3 A N C) 1 (Cert.ReferenceIdeal.comparator_f32_i32_d1 (F := Ideal)) x y).2 (ix3 a p c) = y (ix3 a (sortedFrom before p) c) := by
  have hb : ∀ k k' : Fin N, (Cert.ReferenceIdeal.comparator_f32_i32_d1 (F := Ideal) (x ((ix3 a p c : (shape3 A N C).Idx).along (1 : Fin 3) k), y ((ix3 a p c : (shape3 A N C).Idx).along (1 : Fin 3) k))
      (x ((ix3 a p c : (shape3 A N C).Idx).along (1 : Fin 3) k'), y ((ix3 a p c : (shape3 A N C).Idx).along (1 : Fin 3) k')) == 1#1) = true ↔ f k < f k' := fun k k' => by
    rw [along_middle, along_middle, hx, hx]; exact comparator_pair_real _ _ _ _
  exact ⟨_, hb, congrArg y (along_middle a p _ c)⟩

end Cert.Embedding

end
-- ==== Proof.Gather.lean ====
/-
  Two gathers of a rank-3 array read at an index: one row of the middle axis per index, and along the middle axis.
-/
module

public import Idealize.ShloMosaic.Lib.Routing.OpsSearch
public import Idealize.ShloMosaic.Lib.ValueIdx

@[expose] public section

noncomputable section

namespace Cert.Embedding

open Idealize.ShloMosaic Idealize.ShloMosaic.ValueIdx Idealize.ShloMosaic.Routing

/-- An array's middle axis taken at a vector of positions: entry (a, p, c) is the operand's at (a, k, c), `k` the `p`-th position. -/
theorem gather_middle {α : Type} {A N C n : Nat} (d : GatherDims (shape3 A N C) (shape2 n 1) (shape3 A n C)) (hoff : d.offsetDims = [0, 2])
    (hcoll : d.collapsedSliceDims = [1]) (hob : d.operandBatchingDims = [])
    (hsim : d.startIndexMap = [1]) (hivd : d.indexVectorDim = 1) (x : (shape3 A N C).Idx → α) (idx : IVec (shape2 n 1) 32)
    (a : Fin A) (p : Fin n) (c : Fin C) (k : Fin N) (hk : idx (ix2 p (0 : Fin 1)) = BitVec.ofNat 32 k.val) (hN : N < 2 ^ 31) :
    Host.gather d x idx (ix3 a p c) = x (ix3 a k c) := by
  obtain ⟨o, cs, ob, sb, sm, iv, ss, wf⟩ := d
  simp only at hoff hcoll hob hsim hivd
  subst hoff hcoll hob hsim hivd
  have hsl : ss 1 = 1 := GatherDims.slice_collapsed ⟨_, _, _, sb, _, _, ss, wf⟩ 1 (List.mem_singleton.2 rfl)
  have hkl := k.isLt
  unfold Host.gather
  refine congrArg x (funext fun b => Fin.ext ?_)
  match b with
  | ⟨0, _⟩ => show 0 + 0 + a.val = a.val; omega
  | ⟨2, _⟩ => show 0 + 0 + c.val = c.val; omega
  | ⟨1, _⟩ =>
    have hsi : GatherDims.siIdx (⟨_, _, _, sb, _, _, ss, wf⟩ : GatherDims (shape3 A N C) (shape2 n 1) (shape3 A n C)) (ix3 a p c) ⟨0, by show 0 < 1; omega⟩ = ix2 p (0 : Fin 1) := by
      funext b'
      apply Fin.ext
      match b' with
      | ⟨0, _⟩ => rfl
      | ⟨1, _⟩ => rfl
    show min (idx (GatherDims.siIdx _ (ix3 a p c) ⟨0, _⟩)).toInt.toNat (N - ss 1) + 0 + 0 = k.val
    rw [hsi, hk, hsl, WordCmp.toInt_ofNat_of_lt (w := 32) (by omega), Int.toNat_natCast]
    omega

/-- An array taken along its middle axis: entry (a, p, c) is the operand's at (a, k, c), `k` the index array's entry there. -/
theorem gather_along {α : Type} {A N C n : Nat} (d : GatherDims (shape3 A N C) ⟨4, ![A, n, C, 1]⟩ (shape3 A n C)) (hoff : d.offsetDims = [])
    (hcoll : d.collapsedSliceDims = [1]) (hob : d.operandBatchingDims = [0, 2]) (hsb : d.startIndicesBatchingDims = [0, 2])
    (hsim : d.startIndexMap = [1]) (hivd : d.indexVectorDim = 3) (x : (shape3 A N C).Idx → α) (idx : IVec ⟨4, ![A, n, C, 1]⟩ 32)
    (a : Fin A) (p : Fin n) (c : Fin C) (k : Fin N) (hk : idx (ix4 a p c (0 : Fin 1)) = BitVec.ofNat 32 k.val) (hN : N < 2 ^ 31) :
    Host.gather d x idx (ix3 a p c) = x (ix3 a k c) := by
  obtain ⟨o, cs, ob, sb, sm, iv, ss, wf⟩ := d
  simp only at hoff hcoll hob hsb hsim hivd
  subst hoff hcoll hob hsb hsim hivd
  have hsl : ss 1 = 1 := GatherDims.slice_collapsed ⟨_, _, _, _, _, _, ss, wf⟩ 1 (List.mem_singleton.2 rfl)
  have hkl := k.isLt
  unfold Host.gather
  refine congrArg x (funext fun b => Fin.ext ?_)
  match b with
  | ⟨0, _⟩ => show 0 + a.val + 0 = a.val; omega
  | ⟨2, _⟩ => show 0 + c.val + 0 = c.val; omega
  | ⟨1, _⟩ =>
    have hsi : GatherDims.siIdx (⟨_, _, _, _, _, _, ss, wf⟩ : GatherDims (shape3 A N C) ⟨4, ![A, n, C, 1]⟩ (shape3 A n C)) (ix3 a p c) ⟨0, by show 0 < 1; omega⟩ = ix4 a p c (0 : Fin 1) := by
      funext b'
      apply Fin.ext
      match b' with
      | ⟨0, _⟩ => rfl
      | ⟨1, _⟩ => rfl
      | ⟨2, _⟩ => rfl
      | ⟨3, _⟩ => rfl
    show min (idx (GatherDims.siIdx _ (ix3 a p c) ⟨0, _⟩)).toInt.toNat (N - ss 1) + 0 + 0 = k.val
    rw [hsi, hk, hsl, WordCmp.toInt_ofNat_of_lt (w := 32) (by omega), Int.toNat_natCast]
    omega

end Cert.Embedding

end
-- ==== Proof.Reference.lean ====
/-
  The reference's steps at real inputs: unit directions, projections, sorted projections, slopes, interpolation, the order of
  the reference points and the embedding.
-/
module

public import proofs.«01_k».proof.Proof.Order
public import proofs.«01_k».proof.Proof.Gather
public import proofs.«01_k».proof.Proof.Grid
public import proofs.«01_k».proof.Proof.Body
public import Idealize.ShloMosaic.Lib.StackMember

@[expose] public section

noncomputable section

namespace Cert.Embedding

open Cert.ReferenceIdeal Cert.ReferenceIdeal.Facts₀ Idealize.ShloMosaic Idealize.ShloMosaic.ValueIdx Idealize.ShloMosaic.Routing

variable [Cert.ReferenceIdeal.Facts₀] [Cert.KernelIdeal.Facts₀]

/-! ## Unit directions -/

/-- The directions scaled to unit length, as the reference takes them. -/
def units (A : FVec Ideal S128x128 .f32) : FVec Ideal S128x128 .f32 :=
  Host.divf A (broadcastInDim S128x128 ![0, 1] bcast_S128x1_S128x128_0_1 (Host.sqrt (broadcastInDim S128x1 ![0] bcast_S128_S128x1_0
    (Host.reduceAdd (mulf A A) (constant S_ .f32 0x00000000#32) reducesTo_S128x128_S128_d1 h_S_))))

/-- A row's sum of squares. -/
theorem rowSum_apply (A : FVec Ideal S128x128 .f32) (l : Fin 128)
    (ht : S128x128.ReducesTo [1] S128) (hu : 0 < S_.numel) :
    (Host.reduceAdd (mulf A A) (constant S_ .f32 0x00000000#32) ht hu : FVec Ideal S128 .f32) (ix1 l)
      = ∑ j, A (ix2 l j) * A (ix2 l j) := by
  have hr : S128x128.Reduces [1] S128 := by decide
  rw [hostReduceAdd_apply, Ideal.hostReduceAdd_single _ hr]
  refine (congrArg₂ (· + ·) Ideal.ofBits_zero_f32 (Finset.sum_congr rfl fun j _ => ?_)).trans (zero_add _)
  have e : hr.lift (ix1 l) j = ix2 l j := by
    funext a
    match a with
    | ⟨0, _⟩ => rfl
    | ⟨1, _⟩ => rfl
  rw [e]
  rfl

/-- The reference scales every direction to unit length. -/
theorem units_apply (A : FVec Ideal S128x128 .f32) (θ : Fin 128 → Fin 128 → ℝ) (hd : Directions A θ) (l k : Fin 128) : units A (ix2 l k) = ((unit θ l k : ℝ) : EReal) := by
  unfold units
  rw [hostDivf_apply, broadcastInDim_apply _ _ _ _ (ix2 l (0 : Fin 1)) (fun a => by
    match a with
    | ⟨0, _⟩ => rfl
    | ⟨1, _⟩ => rfl)]
  refine (congrArg (Ideal.div (A (ix2 l k))) (congrArg Ideal.sqrt ((bcCol bcast_S128_S128x1_0 _ l).trans (rowSum_apply A l _ _)))).trans ?_
  rcases hd l with ⟨h, hθ⟩ | ⟨⟨j, hj⟩, h0⟩
  · rw [coe_dot _ _ (θ l) (θ l) h h, h, Ideal.sqrt_coe, if_neg (not_lt.2 hθ.le)]
    exact div_real _ (Real.sqrt_pos.2 hθ).ne'
  · rw [sum_squares_top (fun j => A (ix2 l j)) j hj, Ideal.sqrt_top, unit_zero θ l k h0]
    simp [Ideal.div]

/-! ## Projections -/

/-- The reference points' projections, one copy per batch entry. -/
def refProjections (A : FVec Ideal S1024x128 .f32) (w : FVec Ideal S128x128 .f32) : FVec Ideal S16x1024x128 .f32 :=
  broadcastInDim S16x1024x128 ![0, 1, 2] bcast_S1x1024x128_S16x1024x128_0_1_2 (broadcastInDim S1x1024x128 ![1, 2] bcast_S1024x128_S1x1024x128_1_2
    (Host.dotGeneral dot_S1024x128_S128x128_S1024x128_1_0_0_1_n_n none A (transpose S128x128 [1, 0] w transposes_S128x128_S128x128_1_0)))

theorem refProjections_apply (A : FVec Ideal S1024x128 .f32) (w : FVec Ideal S128x128 .f32) (θ : Fin 128 → Fin 128 → ℝ) (r : Fin 1024 → ℝ)
    (hA : ∀ m k, A (ix2 m k) = ((r m : ℝ) : EReal)) (hw : ∀ l k, w (ix2 l k) = ((unit θ l k : ℝ) : EReal)) (b : Fin 16) (m : Fin 1024) (l : Fin 128) :
    refProjections A w (ix3 b m l) = ((r m * slope θ l : ℝ) : EReal) := by
  unfold refProjections
  refine (bcStack bcast_S1024x128_S1x1024x128_1_2 bcast_S1x1024x128_S16x1024x128_0_1_2 _ b m l).trans ?_
  refine (StackMember.dotGeneral_plain_apply (m := 1024) (n := 128) (k := 128) none A (transpose S128x128 [1, 0] w transposes_S128x128_S128x128_1_0) m l).trans ?_
  refine (coe_dot _ _ (fun _ => r m) (unit θ l) (fun k => hA m k) (fun k => ?_)).trans ?_
  · exact (transpose_apply _ _ _ _ (ix2 l k) (fun a => by
      match a with
      | ⟨0, _⟩ => rfl
      | ⟨1, _⟩ => rfl)).trans (hw l k)
  · rw [← Finset.mul_sum]; rfl

/-- The points' projections. -/
def projections (A : FVec Ideal S16x4096x128 .f32) (w : FVec Ideal S128x128 .f32) : FVec Ideal S16x4096x128 .f32 :=
  Host.dotGeneral dot_S16x4096x128_S128x128_S16x4096x128_2_1_01_0_n_n none A w

theorem projections_apply (A : FVec Ideal S16x4096x128 .f32) (w : FVec Ideal S128x128 .f32) (θ : Fin 128 → Fin 128 → ℝ) (X : Fin 16 → Fin 4096 → Fin 128 → ℝ)
    (hA : ∀ b i k, A (ix3 b i k) = ((X b i k : ℝ) : EReal)) (hw : ∀ l k, w (ix2 l k) = ((unit θ l k : ℝ) : EReal)) (b : Fin 16) (i : Fin 4096) (l : Fin 128) :
    projections A w (ix3 b i l) = ((proj θ (X b i) l : ℝ) : EReal) := by
  show FloatOps.dotGeneral _ none _ A w (ix3 b i l) = _
  rw [Ideal.dotGeneral_apply, ← Equiv.sum_comp (contrEquiv1 dot_S16x4096x128_S128x128_S16x4096x128_2_1_01_0_n_n 128 rfl rfl).symm]
  refine coe_dot _ _ (X b i) (unit θ l) (fun k => ?_) (fun k => ?_)
  · have c2 := contrEquiv1_symm_val dot_S16x4096x128_S128x128_S16x4096x128_2_1_01_0_n_n 128 rfl rfl k
    rw [← hA b i k]
    congr 1
    funext ax; apply Fin.ext
    match ax with
    | ⟨0, _⟩ => simp [DotDims.lhsIdx, dot_S16x4096x128_S128x128_S16x4096x128_2_1_01_0_n_n]; rfl
    | ⟨1, _⟩ => simp [DotDims.lhsIdx, dot_S16x4096x128_S128x128_S16x4096x128_2_1_01_0_n_n]; rfl
    | ⟨2, _⟩ => simp [DotDims.lhsIdx, dot_S16x4096x128_S128x128_S16x4096x128_2_1_01_0_n_n]; exact c2
  · have c2 := contrEquiv1_symm_val dot_S16x4096x128_S128x128_S16x4096x128_2_1_01_0_n_n 128 rfl rfl k
    rw [← hw l k]
    congr 1
    funext ax; apply Fin.ext
    match ax with
    | ⟨0, _⟩ => simp [DotDims.rhsIdx, dot_S16x4096x128_S128x128_S16x4096x128_2_1_01_0_n_n]; rfl
    | ⟨1, _⟩ => simp [DotDims.rhsIdx, dot_S16x4096x128_S128x128_S16x4096x128_2_1_01_0_n_n]; exact c2

/-- The points' projections in increasing order. -/
def sortedProjections (P : FVec Ideal S16x4096x128 .f32) : FVec Ideal S16x4096x128 .f32 := Host.sort S16x4096x128 1 comparator_f32_d1 P

theorem sortedProjections_apply (P : FVec Ideal S16x4096x128 .f32) (θ : Fin 128 → Fin 128 → ℝ) (X : Fin 4096 → Fin 128 → ℝ) (b : Fin 16) (l : Fin 128)
    (hP : ∀ i, P (ix3 b i l) = ((proj θ (X i) l : ℝ) : EReal)) (i : Fin 4096) :
    sortedProjections P (ix3 b i l) = ((lane X θ l i.val : ℝ) : EReal) := by
  refine (sort_middle P b l (fun i => proj θ (X i) l) hP i).trans ?_
  unfold lane
  rw [dif_pos i.isLt]

/-! ## Interpolation -/

/-- A vector along the middle axis. -/
theorem bcMiddle {α : Type} {A N C : ℕ} (hN : N ≠ 1) (h₁ : (shape1 N).BroadcastsInDim (shape3 1 N 1) (![1] : Fin 1 → Fin (shape3 1 N 1).rank))
    (h₂ : (shape3 1 N 1).BroadcastsInDim (shape3 A N C) (![0, 1, 2] : Fin 3 → Fin (shape3 A N C).rank)) (v : (shape1 N).Idx → α)
    (a : Fin A) (p : Fin N) (c : Fin C) :
    broadcastInDim (shape3 A N C) ![0, 1, 2] h₂ (broadcastInDim (shape3 1 N 1) ![1] h₁ v) (ix3 a p c) = v (ix1 p) := by
  refine (broadcastInDim_apply _ h₂ _ _ (ix3 (0 : Fin 1) p (0 : Fin 1)) fun e => ?_).trans (broadcastInDim_apply _ h₁ v _ _ fun e => ?_)
  · match e with
    | ⟨0, _⟩ => rfl
    | ⟨1, _⟩ => show p.val = if N = 1 then 0 else p.val; rw [if_neg hN]
    | ⟨2, _⟩ => rfl
  · match e with
    | ⟨0, _⟩ => show p.val = if N = 1 then 0 else p.val; rw [if_neg hN]

/-- The spacings of the samples, each with the small number added. -/
def gaps (S : FVec Ideal S4096 .f32) : FVec Ideal S4095 .f32 :=
  addf (broadcastInDim S4095 ![] bcast_S_S4095 (constant S_ .f32 0x34000000#32))
    (subf (extractStridedSlice S4095 ![1] S slices_S4096_S4095_1) (extractStridedSlice S4095 ![0] S slices_S4096_S4095_0))

theorem gaps_apply (S : FVec Ideal S4096 .f32) (hS : ∀ i : Fin 4096, S (ix1 i) = ((sampleAt i : ℝ) : EReal)) (i : Fin 4095) :
    gaps S (ix1 i) = ((gap i : ℝ) : EReal) := by
  have hi := i.isLt
  have e1 : extractStridedSlice S4095 ![1] S slices_S4096_S4095_1 (ix1 i) = ((sampleAt (i.val + 1) : ℝ) : EReal) :=
    (slice1 1 _ _ i (by omega)).trans ((hS ⟨1 + i.val, by omega⟩).trans (congrArg (fun n => ((sampleAt n : ℝ) : EReal)) (Nat.add_comm 1 i.val)))
  have e0 : extractStridedSlice S4095 ![0] S slices_S4096_S4095_0 (ix1 i) = ((sampleAt i.val : ℝ) : EReal) :=
    (slice1 0 _ _ i (by omega)).trans ((hS ⟨0 + i.val, by omega⟩).trans (congrArg (fun n => ((sampleAt n : ℝ) : EReal)) (Nat.zero_add i.val)))
  show Ideal.ofBits .f32 0x34000000#32 + (extractStridedSlice S4095 ![1] S slices_S4096_S4095_1 (ix1 i)
    - extractStridedSlice S4095 ![0] S slices_S4096_S4095_0 (ix1 i)) = _
  rw [e1, e0, ofBits_slack, ← EReal.coe_sub, ← EReal.coe_add]
  rfl

/-- The slopes between neighbouring sorted projections. -/
def slopes (Y : FVec Ideal S16x4096x128 .f32) (S : FVec Ideal S4096 .f32) : FVec Ideal S16x4095x128 .f32 :=
  Host.divf (subf (extractStridedSlice S16x4095x128 ![0, 1, 0] Y slices_S16x4096x128_S16x4095x128_0_1_0)
      (extractStridedSlice S16x4095x128 ![0, 0, 0] Y slices_S16x4096x128_S16x4095x128_0_0_0))
    (broadcastInDim S16x4095x128 ![0, 1, 2] bcast_S1x4095x1_S16x4095x128_0_1_2 (broadcastInDim S1x4095x1 ![1] bcast_S4095_S1x4095x1_1 (gaps S)))

theorem slopes_apply (Y : FVec Ideal S16x4096x128 .f32) (S : FVec Ideal S4096 .f32) (hS : ∀ i : Fin 4096, S (ix1 i) = ((sampleAt i : ℝ) : EReal))
    (b : Fin 16) (l : Fin 128) (v : ℕ → ℝ) (hY : ∀ i : Fin 4096, Y (ix3 b i l) = ((v i : ℝ) : EReal)) (i : Fin 4095) :
    slopes Y S (ix3 b i l) = (((v (i.val + 1) - v i.val) / gap i : ℝ) : EReal) := by
  have hi := i.isLt
  have e1 : extractStridedSlice S16x4095x128 ![0, 1, 0] Y slices_S16x4096x128_S16x4095x128_0_1_0 (ix3 b i l) = ((v (i.val + 1) : ℝ) : EReal) :=
    (extractStridedSlice_apply _ _ _ _ (ix3 b (⟨i.val + 1, by omega⟩ : Fin 4096) l) (fun a => by
      match a with
      | ⟨0, _⟩ => show b.val = 0 + b.val; omega
      | ⟨1, _⟩ => show i.val + 1 = 1 + i.val; omega
      | ⟨2, _⟩ => show l.val = 0 + l.val; omega)).trans (hY _)
  have e0 : extractStridedSlice S16x4095x128 ![0, 0, 0] Y slices_S16x4096x128_S16x4095x128_0_0_0 (ix3 b i l) = ((v i.val : ℝ) : EReal) :=
    (extractStridedSlice_apply _ _ _ _ (ix3 b (⟨i.val, by omega⟩ : Fin 4096) l) (fun a => by
      match a with
      | ⟨0, _⟩ => show b.val = 0 + b.val; omega
      | ⟨1, _⟩ => show i.val = 0 + i.val; omega
      | ⟨2, _⟩ => show l.val = 0 + l.val; omega)).trans (hY _)
  have e2 := (bcMiddle (A := 16) (N := 4095) (C := 128) (by norm_num) bcast_S4095_S1x4095x1_1 bcast_S1x4095x1_S16x4095x128_0_1_2 (gaps S) b i l).trans (gaps_apply S hS i)
  unfold slopes
  rw [hostDivf_apply]
  refine (congrArg₂ Ideal.div (congrArg₂ (fun p q : EReal => p - q) e1 e0) e2).trans ?_
  show Ideal.div (((v (i.val + 1) : ℝ) : EReal) - ((v i.val : ℝ) : EReal)) _ = _
  rw [← EReal.coe_sub]
  exact div_real _ (gap_ne_zero _)

/-- The sorted projections interpolated at the queries. -/
def interpolation (Y : FVec Ideal S16x4096x128 .f32) (D : FVec Ideal S16x4095x128 .f32) (L : IVec S1024 32) (Q x : FVec Ideal S1024 .f32) :
    FVec Ideal S16x1024x128 .f32 :=
  addf (Host.gather gather_S16x4096x128_S1024x1_S16x1024x128_02_1_n_n_1_1_161128 Y (column L))
    (mulf (Host.gather gather_S16x4095x128_S1024x1_S16x1024x128_02_1_n_n_1_1_161128 D (column L))
      (broadcastInDim S16x1024x128 ![0, 1, 2] bcast_S1x1024x1_S16x1024x128_0_1_2 (broadcastInDim S1x1024x1 ![1] bcast_S1024_S1x1024x1_1 (subf Q x))))

theorem interpolation_apply (Y : FVec Ideal S16x4096x128 .f32) (D : FVec Ideal S16x4095x128 .f32) (L : IVec S1024 32) (Q x : FVec Ideal S1024 .f32)
    (b : Fin 16) (l : Fin 128) (v : ℕ → ℝ) (hY : ∀ i : Fin 4096, Y (ix3 b i l) = ((v i : ℝ) : EReal))
    (hD : ∀ i : Fin 4095, D (ix3 b i l) = (((v (i.val + 1) - v i.val) / gap i : ℝ) : EReal))
    (m : Fin 1024) (hL : L (ix1 m) = BitVec.ofNat 32 (left m)) (hQ : Q (ix1 m) = ((queryAt m : ℝ) : EReal))
    (hx : x (ix1 m) = ((sampleAt (left m) : ℝ) : EReal)) :
    interpolation Y D L Q x (ix3 b m l) = ((interpolated v m : ℝ) : EReal) := by
  have hb := left_bounds m m.isLt
  have hm := m.isLt
  have e1 := (gather_middle (A := 16) (N := 4096) (C := 128) (n := 1024) gather_S16x4096x128_S1024x1_S16x1024x128_02_1_n_n_1_1_161128 rfl rfl rfl rfl rfl Y (column L) b m l
    (⟨left m, by omega⟩ : Fin 4096) ((column_apply L m).trans hL) (by norm_num)).trans (hY _)
  have e2 := (gather_middle (A := 16) (N := 4095) (C := 128) (n := 1024) gather_S16x4095x128_S1024x1_S16x1024x128_02_1_n_n_1_1_161128 rfl rfl rfl rfl rfl D (column L) b m l
    (⟨left m, by omega⟩ : Fin 4095) ((column_apply L m).trans hL) (by norm_num)).trans (hD _)
  have e3 : broadcastInDim S16x1024x128 ![0, 1, 2] bcast_S1x1024x1_S16x1024x128_0_1_2 (broadcastInDim S1x1024x1 ![1] bcast_S1024_S1x1024x1_1 (subf Q x)) (ix3 b m l)
      = ((queryAt m - sampleAt (left m) : ℝ) : EReal) :=
    (bcMiddle (A := 16) (N := 1024) (C := 128) (by norm_num) bcast_S1024_S1x1024x1_1 bcast_S1x1024x1_S16x1024x128_0_1_2 (subf Q x) b m l).trans
      ((congrArg₂ (fun p q : EReal => p - q) hQ hx).trans (EReal.coe_sub _ _).symm)
  refine (congrArg₂ (fun p q : EReal => p + q) e1 ((congrArg₂ (fun p q : EReal => p * q) e2 e3).trans (EReal.coe_mul _ _).symm)).trans ?_
  exact (EReal.coe_add _ _).symm

/-! ## The order of the reference points -/

/-- The positions that sort the reference points' projections. -/
def order (R : FVec Ideal S16x1024x128 .f32) : IVec S16x1024x128 32 :=
  (Host.sort2 S16x1024x128 1 comparator_f32_i32_d1 R (iotaInDim S16x1024x128 32 1)).2

theorem order_apply (R : FVec Ideal S16x1024x128 .f32) (θ : Fin 128 → Fin 128 → ℝ) (r : Fin 1024 → ℝ) (hr : StrictMono r) (b : Fin 16) (l : Fin 128)
    (hR : ∀ m, R (ix3 b m l) = ((r m * slope θ l : ℝ) : EReal)) (m : Fin 1024) :
    order R (ix3 b m l) = BitVec.ofNat 32 (place θ l m).val := by
  unfold order
  obtain ⟨before, hb, e⟩ := argsort_middle (A := 16) (N := 1024) (C := 128) R (iotaInDim S16x1024x128 32 1) b l (fun m => r m * slope θ l) hR m
  refine e.trans ?_
  refine congrArg (fun k : Fin 1024 => BitVec.ofNat 32 k.val) (?_ : sortedFrom before m = place θ l m)
  unfold place
  by_cases hs : 0 ≤ slope θ l
  · rw [if_pos hs]
    refine sortedFrom_of_ordered before (fun i j hij => ?_) m
    have : ¬ before j i = true := fun h => absurd ((hb j i).1 h) (not_lt.2 (mul_le_mul_of_nonneg_right (hr hij).le hs))
    simpa using this
  · rw [if_neg hs]
    exact sortedFrom_reversed (fun m => r m * slope θ l) (fun i j hij => mul_lt_mul_of_neg_right (hr hij) (not_le.1 hs)) before hb m

/-- Positions counted from the end where negative, with an axis of one element added. -/
def wrapped (i : IVec S16x1024x128 32) : IVec S16x1024x128x1 32 :=
  shapeCast S16x1024x128x1 (select (cmpi .slt i (broadcastInDim S16x1024x128 ![] bcast_S_S16x1024x128 (constantI S_ 32 0#32)))
    (addi i (broadcastInDim S16x1024x128 ![] bcast_S_S16x1024x128 (constantI S_ 32 1024#32))) i) shapeCasts_S16x1024x128_S16x1024x128x1

theorem wrapped_apply (i : IVec S16x1024x128 32) (b : Fin 16) (m : Fin 1024) (l : Fin 128) (k : ℕ) (hk : k < 2 ^ 31)
    (hi : i (ix3 b m l) = BitVec.ofNat 32 k) : wrapped i (ix4 b m l (0 : Fin 1)) = BitVec.ofNat 32 k := by
  refine (shapeCast_apply _ _ _ (ix3 b m l) ?_).trans ?_
  · rw [Shape.rowMajor_val_three, Shape.rowMajor_val_four]
    show (b.val * 1024 + m.val) * 128 + l.val = ((b.val * 1024 + m.val) * 128 + l.val) * 1 + 0
    omega
  · show Scalar.select (IntOp.cmpi .slt (i (ix3 b m l)) 0#32) (i (ix3 b m l) + 1024#32) (i (ix3 b m l)) = _
    rw [hi]
    have h : IntOp.cmpi .slt (BitVec.ofNat 32 k) 0#32 = 0#1 := by
      have := WordCmp.toInt_ofNat_of_lt (w := 32) hk
      have h0 : ¬ (k : ℤ) < 0 := by omega
      simp only [IntOp.cmpi, BitVec.slt, this]
      simp [h0]
    rw [h, select_zero]

/-- The embedding: the reference points' projections less the interpolated values in their order, directions first. -/
def embedding (R I : FVec Ideal S16x1024x128 .f32) (i : IVec S16x1024x128 32) : FVec Ideal S16x128x1024 .f32 :=
  transpose S16x128x1024 [0, 2, 1] (subf R (Host.gather gather_S16x1024x128_S16x1024x128x1_S16x1024x128_n_1_02_02_1_3_111 I (wrapped i)))
    transposes_S16x1024x128_S16x128x1024_0_2_1

theorem embedding_apply (R I : FVec Ideal S16x1024x128 .f32) (i : IVec S16x1024x128 32) (b : Fin 16) (l : Fin 128) (m k : Fin 1024) (x y : ℝ)
    (hi : i (ix3 b m l) = BitVec.ofNat 32 k.val) (hR : R (ix3 b m l) = (x : EReal)) (hI : I (ix3 b k l) = (y : EReal)) :
    embedding R I i (ix3 b l m) = ((x - y : ℝ) : EReal) := by
  have hk := k.isLt
  unfold embedding
  refine (transpose_apply _ _ _ _ (ix3 b m l) (fun a => by
    match a with
    | ⟨0, _⟩ => rfl
    | ⟨1, _⟩ => rfl
    | ⟨2, _⟩ => rfl)).trans ?_
  have e := (gather_along (A := 16) (N := 1024) (C := 128) (n := 1024) gather_S16x1024x128_S16x1024x128x1_S16x1024x128_n_1_02_02_1_3_111 rfl rfl rfl rfl rfl rfl I (wrapped i) b m l k
    (wrapped_apply i b m l k.val (by omega) hi) (by norm_num)).trans hI
  exact (congrArg₂ (fun p q : EReal => p - q) hR e).trans (EReal.coe_sub _ _).symm

end Cert.Embedding

end
-- ==== Proof.ReferenceValue.lean ====
/-
  The reference's result at real inputs: every entry is the embedding's entry.
-/
module

public import proofs.«01_k».proof.Proof.Reference
public import proofs.«01_k».proof.Proof.Gen.ReferenceIdeal.Run

@[expose] public section

noncomputable section

namespace Cert.Embedding

open Cert.ReferenceIdeal Cert.ReferenceIdeal.Facts₀ Idealize.ShloMosaic Idealize.ShloMosaic.ValueIdx

variable [Cert.ReferenceIdeal.Facts₀] [Cert.KernelIdeal.Facts₀]

/-- The sorted projections of the points on the unit directions. -/
def sortedPoints (A : FVec Ideal S16x4096x128 .f32) (B : FVec Ideal S128x128 .f32) : FVec Ideal S16x4096x128 .f32 :=
  sortedProjections (projections A (units B))

/-- The reference's steps in sequence. -/
def steps (A : FVec Ideal S16x4096x128 .f32) (B : FVec Ideal S128x128 .f32) (C : FVec Ideal S1024x128 .f32) : FVec Ideal S16x128x1024 .f32 :=
  embedding (refProjections C (units B))
    (interpolation (sortedPoints A B) (slopes (sortedPoints A B) samples) leftWords queries (taken leftWords))
    (order (refProjections C (units B)))

/-- The steps in sequence, at real points, directions of positive or infinite length and strictly increasing reference points on the
    diagonal: at batch entry `b`, direction `l` and reference point `q`, the embedding's entry. -/
theorem steps_apply (A : FVec Ideal S16x4096x128 .f32) (B : FVec Ideal S128x128 .f32) (C : FVec Ideal S1024x128 .f32)
    (X : Fin 16 → Fin 4096 → Fin 128 → ℝ) (θ : Fin 128 → Fin 128 → ℝ) (r : Fin 1024 → ℝ)
    (h0 : ∀ b i k, A (ix3 b i k) = ((X b i k : ℝ) : EReal)) (hd : Directions B θ)
    (h2 : ∀ q k, C (ix2 q k) = ((r q : ℝ) : EReal)) (hr : StrictMono r)
    (b : Fin 16) (l : Fin 128) (q : Fin 1024) : steps A B C (ix3 b l q) = ((entry (X b) θ r l q : ℝ) : EReal) := by
  have hw := units_apply B θ hd
  have hY : ∀ i : Fin 4096, sortedPoints A B (ix3 b i l) = ((lane (X b) θ l i.val : ℝ) : EReal) :=
    sortedProjections_apply (projections A (units B)) θ (X b) b l fun i => projections_apply A (units B) θ X h0 hw b i l
  have hR := fun m => refProjections_apply C (units B) θ r h2 hw b m l
  have hn := (place θ l q).isLt
  have hl := left_bounds (place θ l q) hn
  exact embedding_apply (refProjections C (units B)) _ (order (refProjections C (units B))) b l q (place θ l q) _ _
    (order_apply _ θ r hr b l hR q) (hR q)
    (interpolation_apply (sortedPoints A B) _ leftWords queries (taken leftWords) b l (lane (X b) θ l) hY
      (slopes_apply (sortedPoints A B) samples samples_apply b l (lane (X b) θ l) hY) (place θ l q) (leftWords_apply _) (queries_apply _)
      (taken_apply leftWords (place θ l q) (left (place θ l q)) (by omega) (leftWords_apply _)))

end Cert.Embedding

end
-- ==== Proof.ReferenceRun.lean ====
/-
  The reference's run ends with the steps of `Cert.Embedding.steps`.
-/
module

public import proofs.«01_k».proof.Proof.ReferenceValue

@[expose] public section

noncomputable section

namespace Cert.Embedding

open Cert.ReferenceIdeal Cert.ReferenceIdeal.Facts₀ Idealize.ShloMosaic Idealize.ShloMosaic.ValueIdx Idealize.ShloMosaic.TcCoe

variable [Cert.ReferenceIdeal.Facts₀] [Cert.KernelIdeal.Facts₀]

/-- The result the reference's run leaves is its steps in sequence. -/
theorem result_eq (m : (ℓ : Loc nD τ sig) → Buf (Elt Ideal) ℓ) (c : Dev nD) :
    Cert.ReferenceIdeal.Value.res_main_v48 m c
      = steps (m ((c : Thread nD τ).loc main_arg0)) (m ((c : Thread nD τ).loc main_arg1)) (m ((c : Thread nD τ).loc main_arg2)) := rfl

end Cert.Embedding

end
-- ==== Proof.Condition.lean ====
/-
  What the precondition says: the points and the reference points are reals, no direction is zero, and the reference points lie on
  the diagonal in strictly increasing order.
-/
module

public import proofs.«01_k».proof.Proof.Reference
public import proofs.«01_k».proof.Proof.Gen.Pre_grid_points
public import Idealize.ShloMosaic.Lib.ReduceAll
public import Idealize.ShloMosaic.Lib.Affine

@[expose] public section

noncomputable section

namespace Cert.Embedding

open Cert.Pre_grid_points Cert.Pre_grid_points.Facts Idealize.ShloMosaic Idealize.ShloMosaic.ValueIdx

variable [Cert.Pre_grid_points.Facts]

/-- The literal of the greatest float is the top of the extended reals. -/
theorem ofBits_top : Ideal.ofBits .f32 0x7F800000#32 = (⊤ : EReal) := by
  simp [Ideal.ofBits, Ideal.ieee]

/-- An extended real whose absolute value is below the top is a real. -/
theorem real_of_bounded (x : EReal) (h : FloatOps.cmpf (F := Ideal) (φ := .f32) .olt (max x (-x) : EReal) (Ideal.ofBits .f32 0x7F800000#32) = 1#1) :
    ((x.toReal : ℝ) : EReal) = x := by
  rw [ofBits_top] at h
  have hx : max x (-x) < ⊤ := by
    by_contra hc
    simp [FloatOps.cmpf, Ideal.cmp, hc] at h
  obtain ⟨h1, h2⟩ := max_lt_iff.1 hx
  refine EReal.coe_toReal h1.ne (fun e => ?_)
  rw [e] at h2
  simp at h2

open scoped Classical in
/-- The rows of an array as real directions: a row with an infinite entry counts as zero. -/
def realRows (A : FVec Ideal S128x128 .f32) (l k : Fin 128) : ℝ :=
  if ∃ j : Fin 128, A (ix2 l j) = ⊤ ∨ A (ix2 l j) = ⊥ then 0 else (A (ix2 l k)).toReal

/-- A row whose sum of squares is positive is one of the directions. -/
theorem realRows_row (A : FVec Ideal S128x128 .f32) (l : Fin 128) (h : 0 < ∑ k, A (ix2 l k) * A (ix2 l k)) :
    ((∀ k, A (ix2 l k) = ((realRows A l k : ℝ) : EReal)) ∧ 0 < ∑ k, realRows A l k * realRows A l k)
      ∨ ((∃ k : Fin 128, A (ix2 l k) = ⊤ ∨ A (ix2 l k) = ⊥) ∧ ∀ k, realRows A l k = 0) := by
  by_cases hi : ∃ j : Fin 128, A (ix2 l j) = ⊤ ∨ A (ix2 l j) = ⊥
  · exact .inr ⟨hi, fun k => if_pos hi⟩
  · have hk : ∀ k, A (ix2 l k) = ((realRows A l k : ℝ) : EReal) := fun k => by
      unfold realRows
      rw [if_neg hi]
      exact (EReal.coe_toReal (fun e => hi ⟨k, .inl e⟩) (fun e => hi ⟨k, .inr e⟩)).symm
    refine .inl ⟨hk, ?_⟩
    rw [coe_dot _ _ (realRows A l) (realRows A l) hk hk] at h
    exact EReal.coe_pos.1 h

/-- A scalar has one index. -/
instance : Subsingleton S_.Idx := ⟨fun i j => funext fun a => a.elim0⟩

/-- The precondition's comparisons and bounds, taken apart: the arguments hold real points, directions, and strictly
    increasing real reference points on the diagonal. -/
theorem condition (a0 : FVec Ideal S16x4096x128 .f32) (a1 : FVec Ideal S128x128 .f32) (a2 : FVec Ideal S1024x128 .f32)
    (h : fn (F := Ideal) a0 a1 a2 = fun _ => 1#1) :
    ∃ (X : Fin 16 → Fin 4096 → Fin 128 → ℝ) (θ : Fin 128 → Fin 128 → ℝ) (r : Fin 1024 → ℝ),
      (∀ b i k, a0 (ix3 b i k) = ((X b i k : ℝ) : EReal)) ∧ Directions a1 θ ∧
      (∀ q k, a2 (ix2 q k) = ((r q : ℝ) : EReal)) ∧ StrictMono r := by
  have h' := congrFun h (Shape.Idx.first h_S_)
  obtain ⟨h', hlt⟩ := IntOp.andi_eq_one.1 h'
  obtain ⟨h', heq⟩ := IntOp.andi_eq_one.1 h'
  obtain ⟨h', hs⟩ := IntOp.andi_eq_one.1 h'
  obtain ⟨f0, f2⟩ := IntOp.andi_eq_one.1 h'
  have r0 := fun i => real_of_bounded (a0 i) (Host.reduce_andi_all _ _ _ _ _ f0 i)
  have r2 := fun i => real_of_bounded (a2 i) (Host.reduce_andi_all _ _ _ _ _ f2 i)
  have s := Host.reduce_andi_all _ _ _ _ _ hs
  have e := Host.reduce_andi_all _ _ _ _ _ heq
  have o := Host.reduce_andi_all _ _ _ _ _ hlt
  have hcol : ∀ (q : Fin 1024) (k : Fin 128), a2 (ix2 q k) = a2 (ix2 q (0 : Fin 128)) := fun q k => by
    have eb : broadcastInDim S1024x128 ![0, 1] bcast_S1024x1_S1024x128_0_1 (extractStridedSlice S1024x1 ![0, 0] a2 slices_S1024x128_S1024x1_0_0) (ix2 q k)
        = a2 (ix2 q (0 : Fin 128)) :=
      (broadcastInDim_apply _ _ _ _ (ix2 q (0 : Fin 1)) (fun a => by
        match a with
        | ⟨0, _⟩ => rfl
        | ⟨1, _⟩ => rfl)).trans (extractStridedSlice_apply _ _ _ _ (ix2 q (0 : Fin 128)) (fun a => by
        match a with
        | ⟨0, _⟩ => show q.val = 0 + q.val; omega
        | ⟨1, _⟩ => rfl))
    have hq : FloatOps.cmpf (F := Ideal) (φ := .f32) .oeq (a2 (ix2 q k)) (a2 (ix2 q (0 : Fin 128))) = 1#1 :=
      (congrArg (fun z => FloatOps.cmpf (F := Ideal) (φ := .f32) .oeq (a2 (ix2 q k)) z) eb).symm.trans (e (ix2 q k))
    by_contra hc
    simp [FloatOps.cmpf, Ideal.cmp, hc] at hq
  have hr : ∀ q : Fin 1024, (((a2 (ix2 q (0 : Fin 128))).toReal : ℝ) : EReal) = a2 (ix2 q (0 : Fin 128)) := fun q => r2 _
  refine ⟨fun b i k => (a0 (ix3 b i k)).toReal, realRows a1, fun q => (a2 (ix2 q (0 : Fin 128))).toReal,
    fun b i k => (r0 _).symm, fun l => realRows_row a1 l ?_, fun q k => (hcol q k).trans (hr q).symm, ?_⟩
  · have hl := s (ix1 l)
    have hl' : FloatOps.cmpf (F := Ideal) (φ := .f32) .ogt (∑ k, a1 (ix2 l k) * a1 (ix2 l k) : EReal) (Ideal.ofBits .f32 0x00000000#32) = 1#1 :=
      (congrArg (fun z => FloatOps.cmpf (F := Ideal) (φ := .f32) .ogt z (Ideal.ofBits .f32 0x00000000#32)) (rowSum_apply a1 l _ _)).symm.trans hl
    rw [Ideal.ofBits_zero_f32] at hl'
    generalize (∑ k, a1 (ix2 l k) * a1 (ix2 l k) : EReal) = z at hl' ⊢
    by_contra hc
    simp [FloatOps.cmpf, Ideal.cmp, hc] at hl'
  · refine Fin.strictMono_iff_lt_succ (n := 1023) |>.2 fun i => ?_
    have hi := i.isLt
    have e0 : extractStridedSlice S1023x128 ![0, 0] a2 slices_S1024x128_S1023x128_0_0 (ix2 i (0 : Fin 128)) = a2 (ix2 (i.castSucc : Fin 1024) (0 : Fin 128)) :=
      extractStridedSlice_apply _ _ _ _ _ (fun a => by
        match a with
        | ⟨0, _⟩ => show i.val = 0 + i.val; omega
        | ⟨1, _⟩ => rfl)
    have e1 : extractStridedSlice S1023x128 ![1, 0] a2 slices_S1024x128_S1023x128_1_0 (ix2 i (0 : Fin 128)) = a2 (ix2 (i.succ : Fin 1024) (0 : Fin 128)) :=
      extractStridedSlice_apply _ _ _ _ _ (fun a => by
        match a with
        | ⟨0, _⟩ => show i.val + 1 = 1 + i.val; omega
        | ⟨1, _⟩ => rfl)
    have ho : FloatOps.cmpf (F := Ideal) (φ := .f32) .olt (a2 (ix2 (i.castSucc : Fin 1024) (0 : Fin 128))) (a2 (ix2 (i.succ : Fin 1024) (0 : Fin 128))) = 1#1 :=
      (congrArg₂ (fun y z => FloatOps.cmpf (F := Ideal) (φ := .f32) .olt y z) e0 e1).symm.trans (o (ix2 i (0 : Fin 128)))
    have hlt' : a2 (ix2 (i.castSucc : Fin 1024) (0 : Fin 128)) < a2 (ix2 (i.succ : Fin 1024) (0 : Fin 128)) := by
      by_contra hc
      simp [FloatOps.cmpf, Ideal.cmp, hc] at ho
    exact EReal.coe_lt_coe_iff.1 (lt_of_eq_of_lt (hr _) (lt_of_lt_of_eq hlt' (hr _).symm))

end Cert.Embedding

end
-- ==== Proof.lean ====
/-
  The proof of `Cert.Claim`. The kernel and the reference both leave, at every entry of the result, the real number
  `Cert.Embedding.entry` of the arguments: the kernel by `kernel_value`, the reference by `result_eq` and `steps_apply`;
  the precondition is read by `condition`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_grid_points
public import proofs.«01_k».proof.Proof.KernelValue
public import proofs.«01_k».proof.Proof.ReferenceRun
public import proofs.«01_k».proof.Proof.Condition

@[expose] public section

noncomputable section

namespace Cert.Proof

open Idealize.ShloMosaic Idealize.ShloMosaic.ValueIdx Idealize.SL.Sem

/-- The reference terminates without a fault, leaves its arguments as they were, and declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Under the precondition the kernel's result array and the reference's result array hold the same values. -/
theorem algebraic : Cert.algebraic_KernelIdeal_ReferenceIdeal_pre_grid_points := by
  intro m g m' g' hpre hagree
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨(h c).1.trans ?_, (h c).2⟩)
    (Cert.ReferenceIdeal.Value.run (F := Ideal) m' g')
  obtain ⟨X, θ, ρ, h0, hd, h2, hρ⟩ := Cert.Embedding.condition _ _ _ (hpre c)
  obtain ⟨e0, e1, e2⟩ := hagree c
  refine (Cert.Embedding.result_eq m' c).trans (funext fun j => ?_)
  obtain ⟨b, l, q, rfl⟩ : ∃ (b : Fin 16) (l : Fin 128) (q : Fin 1024), j = ix3 b l q := ⟨j 0, j 1, j 2, eq_ix3 j⟩
  exact (Cert.Embedding.steps_apply _ _ _ X θ ρ (fun b i k => (congrFun e0 _).trans (h0 b i k)) (e1.symm ▸ hd)
      (fun q k => (congrFun e2 _).trans (h2 q k)) hρ b l q).trans
    (Cert.Embedding.kernel_value m c X θ ρ h0 hd h2 hρ b l q).symm

/-- Every claim of the certificate. -/
theorem claim : Cert.Claim :=
  ⟨Cert.Kernel.Gen.facts, Cert.KernelIdeal.Gen.facts, Cert.ReferenceIdeal.Gen.facts, Cert.Pre_grid_points.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, algebraic⟩

end Cert.Proof

end
